-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S1024x256 : Shape := ⟨2, ![1024, 256]⟩
abbrev S4x1024x256 : Shape := ⟨3, ![4, 1024, 256]⟩
abbrev S4x256x256 : Shape := ⟨3, ![4, 256, 256]⟩
abbrev S5 : Shape := ⟨1, ![5]⟩
abbrev S4 : Shape := ⟨1, ![4]⟩
abbrev S1 : Shape := ⟨1, ![1]⟩
abbrev S_ : Shape := ⟨0, ![]⟩
abbrev S1x1024x256 : Shape := ⟨3, ![1, 1024, 256]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x256, .bf16⟩
  | .local _ .vmem, ⟨0, _⟩ => ⟨S1024x256, .bf16⟩
  | .local _ .vmem, ⟨1, _⟩ => ⟨S256x1024, .f32⟩
  | .local _ .vmem, ⟨2, _⟩ => ⟨S4x1024x256, .f32⟩
  | .local _ .vmem, ⟨3, _⟩ => ⟨S4x256x256, .bf16⟩
  | .local _ .vmem, ⟨4, _⟩ => ⟨S4x256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_0 : BitVec 32 := 4#32
  let c0_i32_1 : BitVec 32 := 0#32
  let v6 : BitVec 1 := Scalar.cmpi .eq c4_i32_0 c0_i32_1
  let c1_i32_2 : BitVec 32 := 1#32
  let v7 : BitVec 32 := Scalar.select v6 c1_i32_2 c4_i32_0
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c256_i32 : BitVec 32 := 256#32
  let v16 : BitVec 32 := Scalar.muli v15 c256_i32
  ![0, v16.toNat]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v23 : BitVec 32 := Scalar.addi v2 c1_i32_10
  let c4_i32_11 : BitVec 32 := 4#32
  let c0_i32_12 : BitVec 32 := 0#32
  let v24 : BitVec 1 := Scalar.cmpi .eq c4_i32_11 c0_i32_12
  let c1_i32_13 : BitVec 32 := 1#32
  let v25 : BitVec 32 := Scalar.select v24 c1_i32_13 c4_i32_11
  let v26 : BitVec 32 := Scalar.remsi v23 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let c1_i32_18 : BitVec 32 := 1#32
  let v34 : BitVec 32 := Scalar.muli v33 c1_i32_18
  let v35 : BitVec 32 := Scalar.addi c0_i32_19 v34
  v35.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v36 : BitVec 32 := Scalar.addi v2 c2_i32_20
  let c4_i32_21 : BitVec 32 := 4#32
  let c0_i32_22 : BitVec 32 := 0#32
  let v37 : BitVec 1 := Scalar.cmpi .eq c4_i32_21 c0_i32_22
  let c1_i32_23 : BitVec 32 := 1#32
  let v38 : BitVec 32 := Scalar.select v37 c1_i32_23 c4_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_28 : BitVec 32 := 1#32
  let v47 : BitVec 32 := Scalar.muli v46 c1_i32_28
  let v48 : BitVec 32 := Scalar.addi c0_i32_29 v47
  v48.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_30 : BitVec 32 := 3#32
  let v49 : BitVec 32 := Scalar.addi v2 c3_i32_30
  let c4_i32_31 : BitVec 32 := 4#32
  let c0_i32_32 : BitVec 32 := 0#32
  let v50 : BitVec 1 := Scalar.cmpi .eq c4_i32_31 c0_i32_32
  let c1_i32_33 : BitVec 32 := 1#32
  let v51 : BitVec 32 := Scalar.select v50 c1_i32_33 c4_i32_31
  let v52 : BitVec 32 := Scalar.remsi v49 v51
  let c0_i32_35 : BitVec 32 := 0#32
  let v54 : BitVec 1 := Scalar.cmpi .slt v52 c0_i32_35
  let c0_i32_36 : BitVec 32 := 0#32
  let v55 : BitVec 1 := Scalar.cmpi .slt v51 c0_i32_36
  let v56 : BitVec 1 := Scalar.xori v54 v55
  let c0_i32_34 : BitVec 32 := 0#32
  let v53 : BitVec 1 := Scalar.cmpi .ne v52 c0_i32_34
  let v57 : BitVec 1 := Scalar.andi v56 v53
  let v58 : BitVec 32 := Scalar.addi v52 v51
  let v59 : BitVec 32 := Scalar.select v57 v58 v52
  let c1_i32_38 : BitVec 32 := 1#32
  let v60 : BitVec 32 := Scalar.muli v59 c1_i32_38
  let v61 : BitVec 32 := Scalar.addi c0_i32_39 v60
  v61.toNat
def k0_dev4 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v125 : BitVec 32 := Scalar.addi v2 c2_i32_87
  let c4_i32_88 : BitVec 32 := 4#32
  let c0_i32_89 : BitVec 32 := 0#32
  let v126 : BitVec 1 := Scalar.cmpi .eq c4_i32_88 c0_i32_89
  let c1_i32_90 : BitVec 32 := 1#32
  let v127 : BitVec 32 := Scalar.select v126 c1_i32_90 c4_i32_88
  let v128 : BitVec 32 := Scalar.remsi v125 v127
  let c0_i32_92 : BitVec 32 := 0#32
  let v130 : BitVec 1 := Scalar.cmpi .slt v128 c0_i32_92
  let c0_i32_93 : BitVec 32 := 0#32
  let v131 : BitVec 1 := Scalar.cmpi .slt v127 c0_i32_93
  let v132 : BitVec 1 := Scalar.xori v130 v131
  let c0_i32_91 : BitVec 32 := 0#32
  let v129 : BitVec 1 := Scalar.cmpi .ne v128 c0_i32_91
  let v133 : BitVec 1 := Scalar.andi v132 v129
  let v134 : BitVec 32 := Scalar.addi v128 v127
  let v135 : BitVec 32 := Scalar.select v133 v134 v128
  let c1_i32_98 : BitVec 32 := 1#32
  let v136 : BitVec 32 := Scalar.muli v135 c1_i32_98
  let v137 : BitVec 32 := Scalar.addi c0_i32_99 v136
  v137.toNat
def k0_dev5 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_136 : BitVec 32 := 1#32
  let v188 : BitVec 32 := Scalar.addi v2 c1_i32_136
  let c4_i32_137 : BitVec 32 := 4#32
  let c0_i32_138 : BitVec 32 := 0#32
  let v189 : BitVec 1 := Scalar.cmpi .eq c4_i32_137 c0_i32_138
  let c1_i32_139 : BitVec 32 := 1#32
  let v190 : BitVec 32 := Scalar.select v189 c1_i32_139 c4_i32_137
  let v191 : BitVec 32 := Scalar.remsi v188 v190
  let c0_i32_141 : BitVec 32 := 0#32
  let v193 : BitVec 1 := Scalar.cmpi .slt v191 c0_i32_141
  let c0_i32_142 : BitVec 32 := 0#32
  let v194 : BitVec 1 := Scalar.cmpi .slt v190 c0_i32_142
  let v195 : BitVec 1 := Scalar.xori v193 v194
  let c0_i32_140 : BitVec 32 := 0#32
  let v192 : BitVec 1 := Scalar.cmpi .ne v191 c0_i32_140
  let v196 : BitVec 1 := Scalar.andi v195 v192
  let v197 : BitVec 32 := Scalar.addi v191 v190
  let v198 : BitVec 32 := Scalar.select v196 v197 v191
  let c1_i32_147 : BitVec 32 := 1#32
  let v199 : BitVec 32 := Scalar.muli v198 c1_i32_147
  let v200 : BitVec 32 := Scalar.addi c0_i32_148 v199
  v200.toNat
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_172 : BitVec 32 := 3#32
  let v234 : BitVec 32 := Scalar.addi v2 c3_i32_172
  let c4_i32_173 : BitVec 32 := 4#32
  let c0_i32_174 : BitVec 32 := 0#32
  let v235 : BitVec 1 := Scalar.cmpi .eq c4_i32_173 c0_i32_174
  let c1_i32_175 : BitVec 32 := 1#32
  let v236 : BitVec 32 := Scalar.select v235 c1_i32_175 c4_i32_173
  let v237 : BitVec 32 := Scalar.remsi v234 v236
  let c0_i32_177 : BitVec 32 := 0#32
  let v239 : BitVec 1 := Scalar.cmpi .slt v237 c0_i32_177
  let c0_i32_178 : BitVec 32 := 0#32
  let v240 : BitVec 1 := Scalar.cmpi .slt v236 c0_i32_178
  let v241 : BitVec 1 := Scalar.xori v239 v240
  let c0_i32_176 : BitVec 32 := 0#32
  let v238 : BitVec 1 := Scalar.cmpi .ne v237 c0_i32_176
  let v242 : BitVec 1 := Scalar.andi v241 v238
  let v243 : BitVec 32 := Scalar.addi v237 v236
  let v244 : BitVec 32 := Scalar.select v242 v243 v237
  let c1_i32_183 : BitVec 32 := 1#32
  let v245 : BitVec 32 := Scalar.muli v244 c1_i32_183
  let v246 : BitVec 32 := Scalar.addi c0_i32_184 v245
  v246.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_206 : BitVec 32 := 256#32
  let v277 : BitVec 32 := Scalar.muli v2 c256_i32_206
  let v278 : Index := Scalar.indexCast v277
  let c0_207 : Index := 0#32
  ![v278.toNat, 0]
def k0_off3 (d0 : Dev nD) (c1_i32_225 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v299 : BitVec 32 := Scalar.subi v2 c1_i32_225
  let c4_i32_226 : BitVec 32 := 4#32
  let c0_i32_227 : BitVec 32 := 0#32
  let v300 : BitVec 1 := Scalar.cmpi .eq c4_i32_226 c0_i32_227
  let c1_i32_228 : BitVec 32 := 1#32
  let v301 : BitVec 32 := Scalar.select v300 c1_i32_228 c4_i32_226
  let v302 : BitVec 32 := Scalar.remsi v299 v301
  let c0_i32_230 : BitVec 32 := 0#32
  let v304 : BitVec 1 := Scalar.cmpi .slt v302 c0_i32_230
  let c0_i32_231 : BitVec 32 := 0#32
  let v305 : BitVec 1 := Scalar.cmpi .slt v301 c0_i32_231
  let v306 : BitVec 1 := Scalar.xori v304 v305
  let c0_i32_229 : BitVec 32 := 0#32
  let v303 : BitVec 1 := Scalar.cmpi .ne v302 c0_i32_229
  let v307 : BitVec 1 := Scalar.andi v306 v303
  let v308 : BitVec 32 := Scalar.addi v302 v301
  let v309 : BitVec 32 := Scalar.select v307 v308 v302
  let c256_i32_235 : BitVec 32 := 256#32
  let v312 : BitVec 32 := Scalar.muli v309 c256_i32_235
  let v313 : Index := Scalar.indexCast v312
  let c0_236 : Index := 0#32
  ![v313.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
/-
# The buffers of the kernel, cut into slots

The four devices form a ring. Each device keeps three scratch arrays of four slots: the column blocks of the weights it
has fetched, the blocks it sends, the blocks it receives. Slot `d` belongs to the transfer that goes `d` devices on (slot
0 of the weights to the block the device keeps). This module names the devices `d` on and `d` back, the slots and the
semaphores, and says that an array held whole is its four slots held one by one, and back again.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.Value
public import Idealize.ShloMosaic.Lib.Ring
public import Idealize.ShloMosaic.Lib.Transfers
public import Idealize.ShloMosaic.Lib.Tactic

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

set_option backward.proofsInPublic true in
/-- The device `d` on from `c`. -/
def sh (d : Fin 4) (c : Dev nD) : Dev nD := ⟨(c.val + d.val) % 4, Nat.mod_lt _ (by decide)⟩
set_option backward.proofsInPublic true in
/-- The device `d` back from `c`. -/
def un (d : Fin 4) (c : Dev nD) : Dev nD := ⟨(c.val + (4 - d.val)) % 4, Nat.mod_lt _ (by decide)⟩
set_option backward.proofsInPublic true in
/-- Going `rv d` on is going `d` back. -/
def rv (d : Fin 4) : Fin 4 := ⟨(4 - d.val) % 4, Nat.mod_lt _ (by decide)⟩

/-- On and back again arrives at the start; -/
theorem un_sh (d : Fin 4) (c : Dev nD) : un d (sh d c) = c := by revert d c; decide
/-- so does back and on; -/
theorem sh_un (d : Fin 4) (c : Dev nD) : sh d (un d c) = c := by revert d c; decide
/-- so does on by `d` and on by what is left of the ring; -/
theorem sh_rv_sh (d : Fin 4) (c : Dev nD) : sh (rv d) (sh d c) = c := by revert d c; decide
/-- none back is the device itself; -/
theorem un_zero (c : Dev nD) : un 0 c = c := by revert c; decide
/-- going `d` on from two devices arrives at two. -/
theorem sh_inj (d : Fin 4) (a b : Dev nD) (h : sh d a = sh d b) : a = b := by
  rw [← un_sh d a, h, un_sh]

/-- Going `d` on, as a permutation of the devices. -/
def turn (d : Fin 4) : Dev nD ≃ Dev nD := ⟨sh d, un d, un_sh d, sh_un d⟩

/-- The three signals go to the devices one on, -/
theorem dev1_eq (c : Dev nD) : (⟨k0_dev1 c, k0_dev1_lt c⟩ : Dev nD) = sh 1 c := by revert c; decide
/-- two on, -/
theorem dev2_eq (c : Dev nD) : (⟨k0_dev2 c, k0_dev2_lt c⟩ : Dev nD) = sh 2 c := by revert c; decide
/-- three on; -/
theorem dev3_eq (c : Dev nD) : (⟨k0_dev3 c, k0_dev3_lt c⟩ : Dev nD) = sh 3 c := by revert c; decide
/-- The three blocks go to the devices two on, -/
theorem dev4_eq (c : Dev nD) : (⟨k0_dev4 c, k0_dev4_lt c⟩ : Dev nD) = sh 2 c := by revert c; decide
/-- one on, -/
theorem dev5_eq (c : Dev nD) : (⟨k0_dev5 c, k0_dev5_lt c⟩ : Dev nD) = sh 1 c := by revert c; decide
/-- three on. -/
theorem dev6_eq (c : Dev nD) : (⟨k0_dev6 c, k0_dev6_lt c⟩ : Dev nD) = sh 3 c := by revert c; decide

/-! ## Memrefs and semaphores -/

/-- The activations' rows, -/
abbrev xA : Memref sig .tc .hbm S256x1024 .f32 := Memref.whole main_arg0
/-- the weights, -/
abbrev wA : Memref sig .tc .hbm S1024x1024 .f32 := Memref.whole main_arg1
/-- the result, -/
abbrev oM : Memref sig .tc .vmem S1024x256 .bf16 := Memref.whole cc0_stg0_0
/-- the activations' scratch array, -/
abbrev xM : Memref sig .tc .vmem S256x1024 .f32 := Memref.whole cc0_scratch0
/-- the weights' scratch array, -/
abbrev wM : Memref sig .tc .vmem S4x1024x256 .f32 := Memref.whole cc0_scratch1
/-- the send array, -/
abbrev sM : Memref sig .tc .vmem S4x256x256 .bf16 := Memref.whole cc0_scratch2
/-- the receive array. -/
abbrev rM : Memref sig .tc .vmem S4x256x256 .bf16 := Memref.whole cc0_scratch3

/-- Slot `d` lies within the weights' scratch array, -/
theorem inbW (d : Fin 4) : ∀ a, (![d.val, 0, 0] : Fin 3 → Nat) a + S1x1024x256.size a ≤ S4x1024x256.size a := by revert d; decide
/-- within the send and the receive array; -/
theorem inbB (d : Fin 4) : ∀ a, (![d.val, 0, 0] : Fin 3 → Nat) a + S1x256x256.size a ≤ S4x256x256.size a := by revert d; decide
/-- semaphore `d` within its array of four, -/
theorem inbS (d : Fin 4) : ∀ a, (![d.val] : Fin 1 → Nat) a + S1.size a ≤ S4.size a := by revert d; decide
/-- semaphore `i` within the array of five. -/
theorem inbI (i : Fin 5) : ∀ a, (![i.val] : Fin 1 → Nat) a + S1.size a ≤ S5.size a := by revert i; decide

/-- The rectangle of slot `d` in the weights' scratch array. -/
abbrev rectW (d : Fin 4) : Rect S4x1024x256 := Rect.unit (s := S4x1024x256) ![d.val, 0, 0] S1x1024x256.size (inbW d)
/-- The rectangle of slot `d` in the send and the receive array. -/
abbrev rectB (d : Fin 4) : Rect S4x256x256 := Rect.unit (s := S4x256x256) ![d.val, 0, 0] S1x256x256.size (inbB d)

/-- Slot `d` of the weights' scratch array. -/
abbrev wSlot (d : Fin 4) : Memref sig .tc .vmem S1024x256 .f32 := (wM.slice (rectW d) (fun _ => rfl)).squeeze S1024x256 squeezes_S1x1024x256_S1024x256
/-- Slot `d` of the send array, -/
abbrev sSlot (d : Fin 4) : Memref sig .tc .vmem S256x256 .bf16 := (sM.slice (rectB d) (fun _ => rfl)).squeeze S256x256 squeezes_S1x256x256_S256x256
/-- and of the receive array. -/
abbrev rSlot (d : Fin 4) : Memref sig .tc .vmem S256x256 .bf16 := (rM.slice (rectB d) (fun _ => rfl)).squeeze S256x256 squeezes_S1x256x256_S256x256

/-- The columns of the weights that device `c` multiplies for the device `d` on. -/
abbrev wCol (c : Dev nD) (d : Fin 4) : Memref sig .tc .hbm S1024x256 .f32 :=
  wA.slice (Rect.unit (s := S1024x1024) (k0_off1 c (BitVec.ofNat 32 d.val)) S1024x256.size (k0_off1_inb c d)) (fun _ => rfl)

/-- The semaphores: fetch `i`, -/
abbrev inS (i : Fin 5) : DmaSem sig := ((cc0_scratch4.slice (Rect.unit (s := S5) ![i.val] S1.size (inbI i))).squeeze S_ squeezes_S1_S_).sem
/-- send `d`, -/
abbrev sendS (d : Fin 4) : DmaSem sig := ((cc0_scratch5.slice (Rect.unit (s := S4) ![d.val] S1.size (inbS d))).squeeze S_ squeezes_S1_S_).sem
/-- receive `d`, -/
abbrev recvS (d : Fin 4) : DmaSem sig := ((cc0_scratch6.slice (Rect.unit (s := S4) ![d.val] S1.size (inbS d))).squeeze S_ squeezes_S1_S_).sem
/-- and the barrier. -/
abbrev barS : Sem sig := (SemArray.scalar (sig.barrier 0 rfl) : Sems sig S_).sem

/-! ## An array held whole, and its slots -/

section Slots

variable {Ix : Type} [DecidableEq Ix] {Name : Type} [DecidableEq Name] {U : Type} [URA U] {Lvl : Type}
local notation "𝕄" => MT nD τ sig Ix (Elt F) Name U Lvl

/-- A memref of device `c` held at the full share, its buffer at `f` on the memref's elements. -/
abbrev pts {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-- The same at some contents. -/
abbrev anyAt (F : FTy → Type) {Ix : Type} [DecidableEq Ix] {Name : Type} [DecidableEq Name] {U : Type} [URA U] {Lvl : Type}
    {sp : Space} {s : Shape} {e : EltTy} (M : Memref sig .tc sp s e) (c : Dev nD) : sProp (MT nD τ sig Ix (Elt F) Name U Lvl) :=
  iprop(∃ f : Buf (Elt F) (M.view.loc (c : Thread nD τ)), pts M c f)

/-- The elements of a slot are its rectangle's: in the weights' scratch array, -/
theorem set_wSlot (d : Fin 4) : (wSlot d).view.set = (rectW d).set := by
  rw [Memref.set_view_squeeze]; exact View.set_slice_whole _ _
/-- the send array, -/
theorem set_sSlot (d : Fin 4) : (sSlot d).view.set = (rectB d).set := by
  rw [Memref.set_view_squeeze]; exact View.set_slice_whole _ _
/-- the receive array. -/
theorem set_rSlot (d : Fin 4) : (rSlot d).view.set = (rectB d).set := by
  rw [Memref.set_view_squeeze]; exact View.set_slice_whole _ _

/-- Different slots of the weights' scratch array are disjoint, -/
theorem disjW (d d' : Fin 4) (h : d ≠ d') : Disjoint (rectW d).set (rectW d').set :=
  Ring.lead_disjoint (s := S4x1024x256) (NB := 4) (0 : Fin 3) 1 (fun d => ![d.val, 0, 0]) S1x1024x256.size inbW
    (by decide) rfl d d' h
/-- and the four cover it; -/
theorem coverW : Finset.univ.biUnion (fun d => (rectW d).set) = Finset.univ :=
  Ring.lead_cover (s := S4x1024x256) (NB := 4) (0 : Fin 3) 1 (fun d => ![d.val, 0, 0]) S1x1024x256.size inbW
    (by decide) (by decide) rfl (by decide) rfl
/-- so are those of the send and the receive array, -/
theorem disjB (d d' : Fin 4) (h : d ≠ d') : Disjoint (rectB d).set (rectB d').set :=
  Ring.lead_disjoint (s := S4x256x256) (NB := 4) (0 : Fin 3) 1 (fun d => ![d.val, 0, 0]) S1x256x256.size inbB
    (by decide) rfl d d' h
/-- and the four cover it. -/
theorem coverB : Finset.univ.biUnion (fun d => (rectB d).set) = Finset.univ :=
  Ring.lead_cover (s := S4x256x256) (NB := 4) (0 : Fin 3) 1 (fun d => ![d.val, 0, 0]) S1x256x256.size inbB
    (by decide) (by decide) rfl (by decide) rfl

/-- A conjunction over four is its four parts. -/
theorem bigSep4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- The weights' scratch array held whole is its four slots; -/
theorem w_split (c : Dev nD) (f : Buf (Elt F) ((c : Thread nD τ).loc cc0_scratch1)) :
    (((c : Thread nD τ).loc cc0_scratch1) ↦{fullShare} f : sProp 𝕄)
      ⊢ iprop(anyAt F (wSlot 0) c ∗ anyAt F (wSlot 1) c ∗ anyAt F (wSlot 2) c ∗ anyAt F (wSlot 3) c) := by
  rw [Ring.pointsTo_blocks (ℓ := (c : Thread nD τ).loc cc0_scratch1) (fun d => (rectW d).set) disjW coverW, ← bigSep4 (fun d => anyAt F (wSlot d) c)]
  refine bigSep_mono fun d _ => ?_
  unfold anyAt pts; rw [set_wSlot]
  show (((c : Thread nD τ).loc cc0_scratch1) ↦[(rectW d).set]{fullShare} f : sProp 𝕄) ⊢ iprop(∃ g : Buf (Elt F) ((c : Thread nD τ).loc cc0_scratch1), ((c : Thread nD τ).loc cc0_scratch1) ↦[(rectW d).set]{fullShare} g)
  iintro H; iexists f; iexact H
/-- and its four slots are the array held whole. -/
theorem w_join [∀ e, Nonempty (Elt F e)] (c : Dev nD) :
    iprop(anyAt F (wSlot 0) c ∗ anyAt F (wSlot 1) c ∗ anyAt F (wSlot 2) c ∗ anyAt F (wSlot 3) c)
      ⊢ (iprop(∃ f : Buf (Elt F) ((c : Thread nD τ).loc cc0_scratch1), ((c : Thread nD τ).loc cc0_scratch1) ↦{fullShare} f) : sProp 𝕄) := by
  rw [← bigSep4 (fun d => anyAt F (wSlot d) c)]
  refine (bigSep_mono fun d _ => ?_).trans
    (Ring.pointsTo_blocks_join_exists (ℓ := (c : Thread nD τ).loc cc0_scratch1) (fun d => (rectW d).set) disjW coverW (fun _ => Classical.arbitrary _))
  unfold anyAt pts; rw [set_wSlot]; exact BI.Entails.refl _

/-- The send array likewise: whole to slots, -/
theorem s_split (c : Dev nD) (f : Buf (Elt F) ((c : Thread nD τ).loc cc0_scratch2)) :
    (((c : Thread nD τ).loc cc0_scratch2) ↦{fullShare} f : sProp 𝕄)
      ⊢ iprop(anyAt F (sSlot 0) c ∗ anyAt F (sSlot 1) c ∗ anyAt F (sSlot 2) c ∗ anyAt F (sSlot 3) c) := by
  rw [Ring.pointsTo_blocks (ℓ := (c : Thread nD τ).loc cc0_scratch2) (fun d => (rectB d).set) disjB coverB, ← bigSep4 (fun d => anyAt F (sSlot d) c)]
  refine bigSep_mono fun d _ => ?_
  unfold anyAt pts; rw [set_sSlot]
  show (((c : Thread nD τ).loc cc0_scratch2) ↦[(rectB d).set]{fullShare} f : sProp 𝕄) ⊢ iprop(∃ g : Buf (Elt F) ((c : Thread nD τ).loc cc0_scratch2), ((c : Thread nD τ).loc cc0_scratch2) ↦[(rectB d).set]{fullShare} g)
  iintro H; iexists f; iexact H
/-- and slots to whole. -/
theorem s_join [∀ e, Nonempty (Elt F e)] (c : Dev nD) :
    iprop(anyAt F (sSlot 0) c ∗ anyAt F (sSlot 1) c ∗ anyAt F (sSlot 2) c ∗ anyAt F (sSlot 3) c)
      ⊢ (iprop(∃ f : Buf (Elt F) ((c : Thread nD τ).loc cc0_scratch2), ((c : Thread nD τ).loc cc0_scratch2) ↦{fullShare} f) : sProp 𝕄) := by
  rw [← bigSep4 (fun d => anyAt F (sSlot d) c)]
  refine (bigSep_mono fun d _ => ?_).trans
    (Ring.pointsTo_blocks_join_exists (ℓ := (c : Thread nD τ).loc cc0_scratch2) (fun d => (rectB d).set) disjB coverB (fun _ => Classical.arbitrary _))
  unfold anyAt pts; rw [set_sSlot]; exact BI.Entails.refl _

/-- The receive array likewise: whole to slots, -/
theorem r_split (c : Dev nD) (f : Buf (Elt F) ((c : Thread nD τ).loc cc0_scratch3)) :
    (((c : Thread nD τ).loc cc0_scratch3) ↦{fullShare} f : sProp 𝕄)
      ⊢ iprop(anyAt F (rSlot 0) c ∗ anyAt F (rSlot 1) c ∗ anyAt F (rSlot 2) c ∗ anyAt F (rSlot 3) c) := by
  rw [Ring.pointsTo_blocks (ℓ := (c : Thread nD τ).loc cc0_scratch3) (fun d => (rectB d).set) disjB coverB, ← bigSep4 (fun d => anyAt F (rSlot d) c)]
  refine bigSep_mono fun d _ => ?_
  unfold anyAt pts; rw [set_rSlot]
  show (((c : Thread nD τ).loc cc0_scratch3) ↦[(rectB d).set]{fullShare} f : sProp 𝕄) ⊢ iprop(∃ g : Buf (Elt F) ((c : Thread nD τ).loc cc0_scratch3), ((c : Thread nD τ).loc cc0_scratch3) ↦[(rectB d).set]{fullShare} g)
  iintro H; iexists f; iexact H
/-- and slots to whole. -/
theorem r_join [∀ e, Nonempty (Elt F e)] (c : Dev nD) :
    iprop(anyAt F (rSlot 0) c ∗ anyAt F (rSlot 1) c ∗ anyAt F (rSlot 2) c ∗ anyAt F (rSlot 3) c)
      ⊢ (iprop(∃ f : Buf (Elt F) ((c : Thread nD τ).loc cc0_scratch3), ((c : Thread nD τ).loc cc0_scratch3) ↦{fullShare} f) : sProp 𝕄) := by
  rw [← bigSep4 (fun d => anyAt F (rSlot d) c)]
  refine (bigSep_mono fun d _ => ?_).trans
    (Ring.pointsTo_blocks_join_exists (ℓ := (c : Thread nD τ).loc cc0_scratch3) (fun d => (rectB d).set) disjB coverB (fun _ => Classical.arbitrary _))
  unfold anyAt pts; rw [set_rSlot]; exact BI.Entails.refl _

end Slots

end Cert.Scatter

end
-- ==== Proof.Blocks.lean ====
/-
# What one block computes and what the result array holds

A device multiplies its rows of the activations with one block of 256 columns of its weights at a time, rounding the
operands and the product to bf16: `mm`. The product for the device `d` on is `blk`. The result array of a device is four
blocks of 256 rows, block `s` the product that device `s` computed for it: `outAt`. The four stores of the kernel, one per
block of rows, leave the array at `outAt` whatever it held before (`writes_eq`).
-/
module

public import proofs.«01_k».proof.Proof.Slots
public import Idealize.ShloMosaic.Lib.ValueIdxCore

@[expose] public section

set_option maxRecDepth 16384

noncomputable section

namespace Cert.Scatter

open Cert.KernelIdeal Cert.KernelIdeal.Gen
open Idealize.ShloMosaic
open Idealize.ShloMosaic.TcCoe
open Idealize.ShloMosaic.ValueIdx (ix2 eq_ix2)

variable {F : FTy → Type} [FloatOps F]

/-- Rows of activations times columns of weights, the operands and the product rounded to bf16. -/
def mm (x : FVec F S256x1024 .f32) (w : FVec F S1024x256 .f32) : FVec F S256x256 .bf16 :=
  truncf .bf16 (matmul dot_S256x1024_S1024x256_S256x256_1_0_0_1_n_n none (truncf .bf16 x bitsLt_bf16_f32)
    (truncf .bf16 w bitsLt_bf16_f32) (constant S256x256 .f32 0x00000000#32)) bitsLt_bf16_f32

/-- The block a device stores in its send slot 2 is the product with a trivial leading axis; -/
theorem pay2_eq (x : FVec F S256x1024 .f32) (w : FVec F S1x1024x256 .f32) :
    k0_pay2 (k0_pay1 x) w = shapeCast S1x256x256 (mm x (shapeCast S1024x256 w shapeCasts_S1x1024x256_S1024x256)) shapeCasts_S256x256_S1x256x256 := rfl
/-- so is the one it stores in send slot 1, -/
theorem pay3_eq (x : FVec F S256x1024 .f32) (w : FVec F S1x1024x256 .f32) :
    k0_pay3 (k0_pay1 x) w = shapeCast S1x256x256 (mm x (shapeCast S1024x256 w shapeCasts_S1x1024x256_S1024x256)) shapeCasts_S256x256_S1x256x256 := rfl
/-- and in send slot 3; -/
theorem pay4_eq (x : FVec F S256x1024 .f32) (w : FVec F S1x1024x256 .f32) :
    k0_pay4 (k0_pay1 x) w = shapeCast S1x256x256 (mm x (shapeCast S1024x256 w shapeCasts_S1x1024x256_S1024x256)) shapeCasts_S256x256_S1x256x256 := rfl
/-- the one it keeps is the product. -/
theorem pay5_eq (x : FVec F S256x1024 .f32) (w : FVec F S1x1024x256 .f32) :
    k0_pay5 (k0_pay1 x) w = mm x (shapeCast S1024x256 w shapeCasts_S1x1024x256_S1024x256) := rfl

section Contents

variable (m : (ℓ : Loc nD τ sig) → Buf (Elt F) ℓ)

/-- Device `c`'s rows of the activations, -/
def xOf (c : Dev nD) : FVec F S256x1024 .f32 := m ((c : Thread nD τ).loc main_arg0)
/-- the columns of its weights for the device `d` on, -/
def wOf (c : Dev nD) (d : Fin 4) : FVec F S1024x256 .f32 := (wCol c d).view.read (Elt F) (m ((c : Thread nD τ).loc main_arg1))
/-- and the product it computes for that device. -/
def blk (c : Dev nD) (d : Fin 4) : FVec F S256x256 .bf16 := mm (xOf m c) (wOf m c d)

set_option backward.proofsInPublic true in
/-- How far on device `c` lies from device `s`. -/
def gap (c s : Dev nD) : Fin 4 := ⟨(c.val + (4 - s.val)) % 4, Nat.mod_lt _ (by decide)⟩
/-- Going back by the distance arrives; -/
theorem un_gap (c s : Dev nD) : un (gap c s) c = s := by revert c s; decide
/-- the distance to the device `d` back is `d`; -/
theorem gap_un (c : Dev nD) (d : Fin 4) : gap c (un d c) = d := by revert c d; decide
/-- different distances back arrive at different devices. -/
theorem un_ne (c : Dev nD) (d d' : Fin 4) (h : d ≠ d') : (un d c).val ≠ (un d' c).val := by revert c d d'; decide

/-- The device whose block of rows row `i` lies in, -/
def rowDev (i : Fin 1024) : Dev nD := ⟨i.val / 256, by have := i.isLt; change _ < 4; omega⟩
/-- and the row's place in that block. -/
def rowIn (i : Fin 1024) : Fin 256 := ⟨i.val % 256, Nat.mod_lt _ (by decide)⟩

/-- The result of device `c`: its block `s` of rows is the product device `s` computed for it. -/
def outAt (c : Dev nD) : (cc0_stg0_0 : Ref sig .tc).ty.Contents (Elt F) := fun (i : S1024x256.Idx) =>
  blk m (rowDev (i 0)) (gap c (rowDev (i 0))) (ix2 (rowIn (i 0)) (i 1))

end Contents

/-! ## The stores, one per block of rows -/

/-- The device's own block is stored at its own block of rows; -/
theorem off2_eq (c : Dev nD) : k0_off2 c = ![256 * (un 0 c).val, 0] := by revert c; decide
/-- the block received from one back at the rows of the device one back, -/
theorem off3_eq1 (c : Dev nD) : k0_off3 c 1#32 = ![256 * (un 1 c).val, 0] := by revert c; decide
/-- from two back at those of the device two back, -/
theorem off3_eq2 (c : Dev nD) : k0_off3 c 2#32 = ![256 * (un 2 c).val, 0] := by revert c; decide
/-- from three back at those of the device three back. -/
theorem off3_eq3 (c : Dev nD) : k0_off3 c 3#32 = ![256 * (un 3 c).val, 0] := by revert c; decide

/-- A store of block `s` of the rows, read at a row: the stored block if the row lies in it, what was there otherwise. -/
theorem store_rows (s : Dev nD) (off : Fin 2 → Nat) (inb : ∀ a, off a + S256x256.size a ≤ S1024x256.size a) (h : off = ![256 * s.val, 0])
    (f : (cc0_stg0_0 : Ref sig .tc).ty.Contents (Elt F)) (w : FVec F S256x256 .bf16) (i : S1024x256.Idx) :
    (oM.access (Rect.unit (s := S1024x256) off S256x256.size inb) : View sig .tc _ _ _).write (Elt F) f w Finset.univ i
      = if rowDev (i 0) = s then w (ix2 (rowIn (i 0)) (i 1)) else f i := by
  subst h
  by_cases hs : rowDev (i 0) = s
  · rw [if_pos hs]
    have hv : (i 0).val / 256 = s.val := congrArg Fin.val hs
    have he : (oM.access (Rect.unit (s := S1024x256) ![256 * s.val, 0] S256x256.size inb) : View sig .tc _ _ _).emb (ix2 (rowIn (i 0)) (i 1)) = i := by
      refine funext fun a => Fin.ext ?_
      match a with
      | ⟨0, _⟩ => show 256 * s.val + 1 * ((i 0).val % 256) = (i 0).val; omega
      | ⟨1, _⟩ => show 0 + 1 * (i 1).val = (i 1).val; omega
    have hw := View.write_emb_of_mem (v := (oM.access (Rect.unit (s := S1024x256) ![256 * s.val, 0] S256x256.size inb) : View sig .tc _ _ _))
      (Val := Elt F) f w (M := Finset.univ) (x := ix2 (rowIn (i 0)) (i 1)) (Finset.mem_univ _)
    rw [he] at hw; exact hw
  · rw [if_neg hs]
    refine View.write_of_not_mem (v := (oM.access (Rect.unit (s := S1024x256) ![256 * s.val, 0] S256x256.size inb) : View sig .tc _ _ _)) (Val := Elt F) f w _ ?_
    intro hi
    rw [View.setOn_univ] at hi
    have h2 := View.set_slice_whole cc0_stg0_0 (Rect.unit (s := S1024x256) ![256 * s.val, 0] S256x256.size inb)
    have h3 : i ∈ (Rect.unit (s := S1024x256) ![256 * s.val, 0] S256x256.size inb).set := by rw [← h2]; exact hi
    have h4 := Rect.mem_set_unit.mp h3 0
    have h5 : 256 * s.val ≤ (i 0).val ∧ (i 0).val < 256 * s.val + 256 := h4
    exact hs (Fin.ext (by show (i 0).val / 256 = s.val; omega))

/-- The four stores in the kernel's order leave the result array at `outAt`, whatever it held. -/
theorem writes_eq (m : (ℓ : Loc nD τ sig) → Buf (Elt F) ℓ) (c : Dev nD) (f : (cc0_stg0_0 : Ref sig .tc).ty.Contents (Elt F)) :
    (oM.access (Rect.unit (s := S1024x256) (k0_off3 c 3#32) S256x256.size (k0_off3_inb c 2)) : View sig .tc _ _ _).write (Elt F)
      ((oM.access (Rect.unit (s := S1024x256) (k0_off3 c 2#32) S256x256.size (k0_off3_inb c 1)) : View sig .tc _ _ _).write (Elt F)
        ((oM.access (Rect.unit (s := S1024x256) (k0_off3 c 1#32) S256x256.size (k0_off3_inb c 0)) : View sig .tc _ _ _).write (Elt F)
          ((oM.access (Rect.unit (s := S1024x256) (k0_off2 c) S256x256.size (k0_off2_inb c)) : View sig .tc _ _ _).write (Elt F) f
            (blk m c 0) Finset.univ)
          (blk m (un 1 c) 1) Finset.univ)
        (blk m (un 2 c) 2) Finset.univ)
      (blk m (un 3 c) 3) Finset.univ = outAt m c := by
  refine funext fun (i : S1024x256.Idx) => ?_
  rw [store_rows (un 3 c) _ _ (off3_eq3 c), store_rows (un 2 c) _ _ (off3_eq2 c), store_rows (un 1 c) _ _ (off3_eq1 c),
    store_rows (un 0 c) _ _ (off2_eq c)]
  unfold outAt
  generalize hs : rowDev (i 0) = s
  have hg := un_gap c s
  generalize hd : gap c s = d
  rw [hd] at hg
  subst hg
  have hne : ∀ d', d' ≠ d → un d c ≠ un d' c := fun d' h e => un_ne c d d' (Ne.symm h) (congrArg Fin.val e)
  match d, hne with
  | 0, hne => rw [if_neg (hne 3 (by decide)), if_neg (hne 2 (by decide)), if_neg (hne 1 (by decide)), if_pos rfl, un_zero]
  | 1, hne => rw [if_neg (hne 3 (by decide)), if_neg (hne 2 (by decide)), if_pos rfl]
  | 2, hne => rw [if_neg (hne 3 (by decide)), if_pos rfl]
  | 3, hne => rw [if_pos rfl]

end Cert.Scatter

end
-- ==== Proof.Protocol.lean ====
/-
# The protocol between the four devices

Every device signals the barrier semaphore of the three others, waits for its own three signals, and then sends one block
to each other device, signalling a receive semaphore there and a send semaphore of its own.

In the language of rounds, with one round: the barrier cell of a device has three duties of one unit, duty `d` paid by the
device `d` back. With it that device hands over the receive slot this device will write to. A send or a receive cell has
one duty, paid by the transfer: the receive cell's hands over the receive slot holding the block that was sent, the send
cell's the send slot back.
-/
module

public import proofs.«01_k».proof.Proof.Blocks
public import Idealize.ShloMosaic.Lib.Pipeline.Launch

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds, the ring's rounds, the counters of local transfers -/

/-- The protocol's own state: rounds of up to four duties; -/
abbrev UB : Type := URounds (GSem nD τ sig) (Fin 4)
/-- with the pipeline's and the counters of local transfers. -/
abbrev UU : Type := UR sig nD τ × (UB × Counters)

local notation "𝕄" => MT nD τ sig Unit (Elt F) ℕ UU ℕ

/-- The pipeline's state in the whole, -/
abbrev EP : Emb (UR sig nD τ) (MT nD τ sig Unit (Elt F) ℕ UU ℕ) := embL
/-- the protocol's in the whole, -/
abbrev ER : Emb UB (MT nD τ sig Unit (Elt F) ℕ UU ℕ) := (Emb.inl : Emb UB (UB × Counters)).trans embR
/-- The protocol's state lies in the user's part. -/
instance ER_landsIn : (ER : Emb UB (MT nD τ sig Unit (Elt F) ℕ UU ℕ)).LandsIn (upEmb : UEmb _ (MT nD τ sig Unit (Elt F) ℕ UU ℕ)) := by
  unfold ER; infer_instance
/-- and the counters in the whole. -/
abbrev EC : UEmb Counters (MT nD τ sig Unit (Elt F) ℕ UU ℕ) := countersEmb

variable (m : (ℓ : Loc nD τ sig) → Buf (Elt F) ℓ)

/-! ## The cells -/

/-- Device `c`'s barrier cell, -/
abbrev barCell (c : Dev nD) : GSem nD τ sig := ((c : Thread nD τ), .reg barS)
/-- its send cell `d`, -/
abbrev sendCell (c : Dev nD) (d : Fin 4) : GSem nD τ sig := ((c : Thread nD τ), .dma (sendS d))
/-- and its receive cell `d`. -/
abbrev recvCell (c : Dev nD) (d : Fin 4) : GSem nD τ sig := ((c : Thread nD τ), .dma (recvS d))

/-- What one block's transfer adds to its two semaphores. -/
abbrev N : ℕ := (rSlot 1).view.dmaCredit
/-- It adds something, -/
theorem N_pos : 0 < N := View.dmaCredit_pos _ (by decide)
/-- and the same for every slot. -/
theorem N_eq (d : Fin 4) : (rSlot d).view.dmaCredit = N := rfl

/-- Being one of the three receive semaphores in use; -/
abbrev IsRecv (s : SemLoc sig) : Prop := s = .dma (recvS 1) ∨ s = .dma (recvS 2) ∨ s = .dma (recvS 3)
/-- being one of the three send semaphores in use. -/
abbrev IsSend (s : SemLoc sig) : Prop := s = .dma (sendS 1) ∨ s = .dma (sendS 2) ∨ s = .dma (sendS 3)
/-- The slot a send or receive semaphore belongs to. -/
def slotOf (s : SemLoc sig) : Fin 4 :=
  if s = .dma (recvS 1) ∨ s = .dma (sendS 1) then 1 else if s = .dma (recvS 2) ∨ s = .dma (sendS 2) then 2 else 3

/-- The receive semaphores 1, 2, 3 are in use; -/
theorem isRecv (d : Fin 4) (h : d ≠ 0) : IsRecv (.dma (recvS d)) := by revert d; decide
/-- so are the send semaphores. -/
theorem isSend (d : Fin 4) (h : d ≠ 0) : IsSend (.dma (sendS d)) := by revert d; decide
/-- A send semaphore is no receive semaphore; -/
theorem not_isRecv_send (d : Fin 4) : ¬ IsRecv (.dma (sendS d)) := by revert d; decide
/-- nor is a fetch's. -/
theorem not_isRecv_in (i : Fin 5) : ¬ IsRecv (.dma (inS i)) := by revert i; decide
/-- Receive semaphore `d` belongs to slot `d`; -/
theorem slotOf_recv (d : Fin 4) (h : d ≠ 0) : slotOf (.dma (recvS d)) = d := by revert d; decide
/-- so does send semaphore `d`. -/
theorem slotOf_send (d : Fin 4) (h : d ≠ 0) : slotOf (.dma (sendS d)) = d := by revert d; decide
/-- No transfer's semaphore is the barrier, -/
theorem dma_ne_bar (q : DmaSem sig) : (SemLoc.dma q : SemLoc sig) ≠ .reg barS := fun h => by cases h
/-- and the barrier is no receive semaphore. -/
theorem not_isRecv_bar : ¬ IsRecv (.reg barS) := by rintro (h | h | h) <;> cases h
/-- Different slots have different receive semaphores. -/
theorem recvS_inj (d d' : Fin 4) (h : recvS d = recvS d') : d = d' := by revert d d'; decide

/-! ## The payloads -/

/-- Receive slot `d` of device `c`, to be written, and that its receive cell is at round 0. -/
def landing (c : Dev nD) (d : Fin 4) : sProp 𝕄 := iprop(anyAt F (rSlot d) c ∗ reached ER (recvCell c d) 0)
/-- What duty `d` of device `c`'s barrier cell hands over: the slot of the device `d` back that `c` will write. -/
def barPay (c : Dev nD) (d : Fin 4) : sProp 𝕄 := landing (sh (rv d) c) (rv d)
/-- What a transfer hands its receiver: the receive slot holding the block the device `d` back computed. -/
def recvPay (c : Dev nD) (d : Fin 4) : sProp 𝕄 := owns (c : Thread nD τ) (rSlot d) fullShare (blk m (un d c) d)
/-- What it hands its sender: the send slot. -/
def sendPay (c : Dev nD) (d : Fin 4) : sProp 𝕄 := anyAt F (sSlot d) c

/-- A device's signal to the device `d` on hands over its own receive slot for that device. -/
theorem barPay_sh (c : Dev nD) (d : Fin 4) : (barPay (sh d c) d : sProp 𝕄) = landing c (rv d) := by unfold barPay; rw [sh_rv_sh]

/-! ## The schedule -/

/-- The schedule: duties, amounts and payloads of every cell. -/
def ringRd : Rounds.Schedule (GSem nD τ sig) (Fin 4) 𝕄 where
  duties g r := if r = 0 ∧ g.1.2 = .tc ∧ g.2 = .reg barS then {1, 2, 3}
    else if r = 0 ∧ g.1.2 = .tc ∧ (IsRecv g.2 ∨ IsSend g.2) then {0} else ∅
  unitless _ := False
  amount g _ _ := if g.2 = .reg barS then 1 else N
  payload g _ d :=
    if g.2 = .reg barS then barPay g.1.1 d
    else if IsRecv g.2 then recvPay m g.1.1 (slotOf g.2)
    else if IsSend g.2 then sendPay g.1.1 (slotOf g.2)
    else iprop(emp)
  amount_pos g _ _ _ := by
    by_cases h : g.2 = .reg barS
    · rw [if_pos h]; exact Nat.one_pos
    · rw [if_neg h]; exact N_pos

/-- A receive slot to be written may be kept in an invariant, -/
instance landing_storable (c : Dev nD) (d : Fin 4) : BI.Storable (upEmb : UEmb _ 𝕄) (landing (F := F) c d) := by
  unfold landing; infer_instance

/-- and so may every payload. -/
instance ringRd_payload_storable (g : GSem nD τ sig) (r : ℕ) (d : Fin 4) :
    BI.Storable (upEmb : UEmb _ 𝕄) ((ringRd (F := F) m).payload g r d) := by
  show BI.Storable upEmb (if g.2 = .reg barS then barPay g.1.1 d
    else if IsRecv g.2 then recvPay m g.1.1 (slotOf g.2)
    else if IsSend g.2 then sendPay g.1.1 (slotOf g.2)
    else iprop(emp))
  unfold barPay recvPay sendPay
  (repeat' split) <;> infer_instance

section Sched
variable (c : Dev nD) (d : Fin 4)

/-- A barrier has the duties 1, 2, 3; -/
theorem duties_bar : (ringRd (F := F) m).duties (barCell c) 0 = {1, 2, 3} := by dsimp only [ringRd]; exact if_pos ⟨rfl, rfl, rfl⟩
/-- a send cell one duty; -/
theorem duties_send (h : d ≠ 0) : (ringRd (F := F) m).duties (sendCell c d) 0 = {0} := by
  dsimp only [ringRd]; rw [if_neg (fun h => dma_ne_bar _ h.2.2)]; exact if_pos ⟨rfl, rfl, .inr (isSend d h)⟩
/-- a receive cell one duty; -/
theorem duties_recv (h : d ≠ 0) : (ringRd (F := F) m).duties (recvCell c d) 0 = {0} := by
  dsimp only [ringRd]; rw [if_neg (fun h => dma_ne_bar _ h.2.2)]; exact if_pos ⟨rfl, rfl, .inl (isRecv d h)⟩
/-- no cell has a duty after round 0. -/
theorem duties_later (g : GSem nD τ sig) : ∀ r, 1 ≤ r → (ringRd (F := F) m).duties g r = ∅ :=
  fun r hr => by dsimp only [ringRd]; rw [if_neg fun h => by omega, if_neg fun h => by omega]

/-- A barrier's duty is one unit; -/
theorem amount_bar : (ringRd (F := F) m).amount (barCell c) 0 d = 1 := by dsimp only [ringRd]; exact if_pos rfl
/-- a send cell's is one block, -/
theorem amount_send (k : Fin 4) : (ringRd (F := F) m).amount (sendCell c d) 0 k = N := by dsimp only [ringRd]; exact if_neg (dma_ne_bar _)
/-- and a receive cell's. -/
theorem amount_recv (k : Fin 4) : (ringRd (F := F) m).amount (recvCell c d) 0 k = N := by dsimp only [ringRd]; exact if_neg (dma_ne_bar _)

/-- A barrier awaits three units; -/
theorem expect_bar : (ringRd (F := F) m).expect (barCell c) 0 = 3 := by
  unfold Schedule.expect Schedule.amountOf
  rw [duties_bar, Finset.sum_congr rfl fun d _ => amount_bar m c d]; rfl
/-- a send cell one block, -/
theorem expect_send (h : d ≠ 0) : (ringRd (F := F) m).expect (sendCell c d) 0 = N := by
  unfold Schedule.expect Schedule.amountOf; rw [duties_send m c d h, Finset.sum_singleton, amount_send]
/-- and a receive cell. -/
theorem expect_recv (h : d ≠ 0) : (ringRd (F := F) m).expect (recvCell c d) 0 = N := by
  unfold Schedule.expect Schedule.amountOf; rw [duties_recv m c d h, Finset.sum_singleton, amount_recv]

/-- The payload of a barrier's duty, -/
theorem payload_bar : (ringRd (F := F) m).payload (barCell c) 0 d = barPay c d := by dsimp only [ringRd]; rw [if_pos rfl]
/-- of a receive cell's, -/
theorem payload_recv (h : d ≠ 0) (k : Fin 4) : (ringRd (F := F) m).payload (recvCell c d) 0 k = recvPay m c d := by
  dsimp only [ringRd]; rw [if_neg (dma_ne_bar _), if_pos (isRecv d h), slotOf_recv d h]
/-- of a send cell's. -/
theorem payload_send (h : d ≠ 0) (k : Fin 4) : (ringRd (F := F) m).payload (sendCell c d) 0 k = sendPay c d := by
  dsimp only [ringRd]; rw [if_neg (dma_ne_bar _), if_neg (not_isRecv_send d), if_pos (isSend d h), slotOf_send d h]

/-- The barrier's round hands over the three slots this device will write. -/
theorem rest_bar : bigSep ((ringRd (F := F) m).duties (barCell c) 0 \ ∅) (fun d => (ringRd (F := F) m).payload (barCell c) 0 d)
    = iprop(landing (sh 3 c) 3 ∗ landing (sh 2 c) 2 ∗ landing (sh 1 c) 1) := by
  rw [Finset.sdiff_empty, duties_bar, bigSep_eq_bigSepL_of_eq [1, 2, 3] (by decide) (by decide), bigSepL_cons_cons, bigSepL_cons_cons, bigSepL_singleton,
    payload_bar, payload_bar, payload_bar]
  rfl
/-- A send cell's round hands back the send slot; -/
theorem rest_send (h : d ≠ 0) : bigSep ((ringRd (F := F) m).duties (sendCell c d) 0 \ ∅) (fun k => (ringRd (F := F) m).payload (sendCell c d) 0 k) = sendPay c d := by
  rw [Finset.sdiff_empty, duties_send m c d h, bigSep_singleton, payload_send m c d h]
/-- a receive cell's hands over the received block. -/
theorem rest_recv (h : d ≠ 0) : bigSep ((ringRd (F := F) m).duties (recvCell c d) 0 \ ∅) (fun k => (ringRd (F := F) m).payload (recvCell c d) 0 k) = recvPay m c d := by
  rw [Finset.sdiff_empty, duties_recv m c d h, bigSep_singleton, payload_recv m c d h]

end Sched

/-! ## What each device owes, and the levels -/

/-- A block to the receive cell of the device `d` on. -/
abbrev tR (c : Dev nD) (d : Fin 4) : CellTallies nD τ sig Unit := tallyAt (recvCell (sh d c) d) () N
/-- A signal to the barrier of the device `d` on. -/
abbrev tB (c : Dev nD) (d : Fin 4) : CellTallies nD τ sig Unit := tallyAt (barCell (sh d c)) () 1

/-- What is owed after the second block, -/
abbrev Oa (c : Dev nD) : CellTallies nD τ sig Unit := tR c 3
/-- after the first, -/
abbrev Ob (c : Dev nD) : CellTallies nD τ sig Unit := Oa c + tR c 1
/-- after the barrier, -/
abbrev Oc (c : Dev nD) : CellTallies nD τ sig Unit := Ob c + tR c 2
/-- before the third signal, -/
abbrev Od (c : Dev nD) : CellTallies nD τ sig Unit := Oc c + tB c 3
/-- before the second, -/
abbrev Oe (c : Dev nD) : CellTallies nD τ sig Unit := Od c + tB c 2
/-- before the first. -/
def O₀ (c : Dev nD) : CellTallies nD τ sig Unit := Oe c + tB c 1

/-- Every cell of a TensorCore has one kind of unit. -/
def L (g : GSem nD τ sig) : Finset Unit := if g.1.2 = .tc then {()} else ∅
/-- Barrier cells at 1, receive cells at 2, everything else at 0. -/
def lv (g : GSem nD τ sig) (_ : Unit) : ℕ := if g.2 = .reg barS then 1 else if IsRecv g.2 then 2 else 0

/-- Off the TensorCores there is none; -/
theorem L_of_ne (g : GSem nD τ sig) (h : g.1.2 ≠ .tc) : L g = ∅ := if_neg h
/-- on them there is the one. -/
theorem L_tc (c : Dev nD) (sm : SemLoc sig) : L ((c : Thread nD τ), sm) = {()} := if_pos rfl
/-- A barrier is at level 1, -/
theorem lv_bar (c : Dev nD) : lv (barCell c) () = 1 := if_pos rfl
/-- a receive cell at 2, -/
theorem lv_recv (c : Dev nD) (d : Fin 4) (h : d ≠ 0) : lv (recvCell c d) () = 2 := by
  unfold lv; rw [if_neg (dma_ne_bar _), if_pos (isRecv d h)]
/-- every other transfer's semaphore at 0. -/
theorem lv_low (c : Dev nD) (q : DmaSem sig) (h : ¬ IsRecv (.dma q)) : lv ((c : Thread nD τ), .dma q) () = 0 := by
  unfold lv; rw [if_neg (dma_ne_bar _), if_neg h]

/-- Everything owed lies above level `n`. -/
def High (n : ℕ) (O : CellTallies nD τ sig Unit) : Prop := ∀ g u, 0 < O g u → g.1.2 = .tc ∧ n < lv g u

/-- Owing nothing lies above every level; -/
theorem High.zero (n : ℕ) : High n 0 := fun g u h => absurd h (Nat.lt_irrefl 0)
/-- so do two debts that do; -/
theorem High.add {n : ℕ} {O O' : CellTallies nD τ sig Unit} (h : High n O) (h' : High n O') : High n (O + O') := fun g u hg => by
  rw [Pi.add_apply, Finsupp.add_apply] at hg
  rcases Nat.eq_zero_or_pos (O g u) with h0 | h0
  · rw [h0, Nat.zero_add] at hg; exact h' g u hg
  · exact h g u h0
/-- a debt to a cell does if the cell does. -/
theorem High.tally {n : ℕ} (c : Dev nD) (sm : SemLoc sig) (k : ℕ) (h : n < lv ((c : Thread nD τ), sm) ()) :
    High n (tallyAt ((c : Thread nD τ), sm) () k) := fun g u hg => by
  rw [tallyAt_apply] at hg
  by_cases he : g = ((c : Thread nD τ), sm) ∧ u = ()
  · rw [he.1]; exact ⟨rfl, h⟩
  · rw [if_neg he] at hg; exact absurd hg (Nat.lt_irrefl 0)

/-- A block owed lies above levels 0 and 1; -/
theorem high_R (c : Dev nD) (d : Fin 4) (h : d ≠ 0) (n : ℕ) (hn : n < 2) : High n (tR c d) := High.tally _ _ _ (by rw [lv_recv _ d h]; exact hn)
/-- a signal owed above level 0; -/
theorem high_B (c : Dev nD) (d : Fin 4) : High 0 (tB c d) := High.tally _ _ _ (by rw [lv_bar]; decide)
/-- so what is owed after the second block, -/
theorem high_a (c : Dev nD) (n : ℕ) (hn : n < 2) : High n (Oa c) := high_R c 3 (by decide) n hn
/-- after the first, -/
theorem high_b (c : Dev nD) (n : ℕ) (hn : n < 2) : High n (Ob c) := (high_a c n hn).add (high_R c 1 (by decide) n hn)
/-- and after the barrier, lies above levels 0 and 1; -/
theorem high_c (c : Dev nD) (n : ℕ) (hn : n < 2) : High n (Oc c) := (high_b c n hn).add (high_R c 2 (by decide) n hn)
/-- what is owed at the start lies above level 0. -/
theorem high_0 (c : Dev nD) : High 0 (O₀ c) :=
  (((high_c c 0 (by decide)).add (high_B c 3)).add (high_B c 2)).add (high_B c 1)

/-- A device may wait on a cell of its own at level `n` while everything it owes lies above. -/
theorem mayWait (n : ℕ) (c : Dev nD) (sm : SemLoc sig) (h : lv ((c : Thread nD τ), sm) () = n) (O : CellTallies nD τ sig Unit) (hO : High n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h.le)
    (fun g u hg => (hO g u hg).2)

end Cert.Scatter

end
-- ==== Proof.Steps.lean ====
/-
# The steps of a device's program

One rule for each kind of step of the kernel, in terms of its slots and blocks: fetching a block of columns and waiting for
it, storing a product in a send slot, sending it, waiting for a block to arrive and for a send slot to come back.
-/
module

public import proofs.«01_k».proof.Proof.Protocol

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop, no variant. -/
abbrev 𝒱₀ : Variants := Variants.none

/-- What a device owes, having waited on some of its semaphores. -/
def owing (c : Dev nD) (O : CellTallies nD τ sig Unit) : sProp 𝕄 := iprop(∃ W, owes (c : Thread nD τ) O W)

/-! ## The elements a load or a store of a slot touches -/

/-- A load of a slot's rectangle touches the slot alone: in the weights' scratch array, -/
theorem load_wSlot (d : Fin 4) : wM.view.setOn (rectW d).toLoadRect.set ⊆ (wSlot d).view.set := by
  rw [set_wSlot]; exact (Finset.map_refl (s := (rectW d).set)).subset
/-- the send array, -/
theorem load_sSlot (d : Fin 4) : sM.view.setOn (rectB d).toLoadRect.set ⊆ (sSlot d).view.set := by
  rw [set_sSlot]; exact (Finset.map_refl (s := (rectB d).set)).subset
/-- the receive array. -/
theorem load_rSlot (d : Fin 4) : rM.view.setOn (rectB d).toLoadRect.set ⊆ (rSlot d).view.set := by
  rw [set_rSlot]; exact (Finset.map_refl (s := (rectB d).set)).subset
/-- So does a store in the send array. -/
theorem store_sSlot (d : Fin 4) : (sM.access (rectB d)).setOn Finset.univ ⊆ (sSlot d).view.set := by
  rw [Memref.set_view_squeeze]; exact Finset.Subset.refl _

/-- A product stored through a slot's rectangle is read back through the slot. -/
theorem read_stored (c : Dev nD) (d : Fin 4) (f : Buf (Elt F) (sM.view.loc (c : Thread nD τ))) (X : FVec F S256x256 .bf16) :
    (sSlot d).view.read (Elt F) ((sM.access (rectB d) : View sig .tc _ _ _).write (Elt F) f
      (shapeCast S1x256x256 X shapeCasts_S256x256_S1x256x256) Finset.univ) = X := by
  show shapeCast S256x256 ((sM.access (rectB d) : View sig .tc _ _ _).read (Elt F) ((sM.access (rectB d) : View sig .tc _ _ _).write (Elt F) f
      (shapeCast S1x256x256 X shapeCasts_S256x256_S1x256x256) Finset.univ)) shapeCasts_S1x256x256_S256x256 = X
  rw [View.read_write_univ]
  exact shapeCast_shapeCast X _ _

/-- A send slot after the store holds the product. -/
theorem stored (c : Dev nD) (d : Fin 4) (f : Buf (Elt F) (sM.view.loc (c : Thread nD τ))) (X : FVec F S256x256 .bf16) :
    ((sM.access (rectB d)).loc (c : Thread nD τ) ↦[(sSlot d).view.set]{fullShare}
      ((sM.access (rectB d) : View sig .tc _ _ _).write (Elt F) f (shapeCast S1x256x256 X shapeCasts_S256x256_S1x256x256) Finset.univ) : sProp 𝕄)
      ⊢ owns (c : Thread nD τ) (sSlot d) fullShare X := by
  have h := owns_intro (Ix := Unit) (Name := ℕ) (U := UU) (Lvl := ℕ) (Val := Elt F) (c : Thread nD τ) (sSlot d) fullShare
    ((sM.access (rectB d) : View sig .tc _ _ _).write (Elt F) f (shapeCast S1x256x256 X shapeCasts_S256x256_S1x256x256) Finset.univ)
  have e := read_stored c d f X
  rw [e] at h
  exact h

/-! ## Fetching a block of columns -/

/-- A share `q` of the columns fetched for the device `d` on. -/
abbrev wPart (c : Dev nD) (d : Fin 4) (q : PosShare TreeShare) : sProp 𝕄 :=
  (wCol c d).view.loc (c : Thread nD τ) ↦[(wCol c d).view.set]{q} m ((c : Thread nD τ).loc main_arg1)

/-- What a transfer on the device under way delivers: the destination rewritten and the source's share back. -/
abbrev Copying {sp : Space} {s : Shape} {e : EltTy} (c : Dev nD) (src : Memref sig .tc sp s e) (dst : Memref sig .tc .vmem s e) (i : Fin 5)
    (q : PosShare TreeShare) (fs : Buf (Elt F) (src.view.loc (c : Thread nD τ))) (fd : Buf (Elt F) (dst.view.loc (c : Thread nD τ))) : sProp 𝕄 :=
  Transfers.Flight EC (c : Thread nD τ) (.dma (inS i)) () dst.view.dmaCredit
    iprop((dst.view.loc (c : Thread nD τ) ↦[dst.view.set]{fullShare} (dst.view.write (Elt F) fd (src.view.read (Elt F) fs) Finset.univ))
      ∗ (src.view.loc (c : Thread nD τ) ↦[src.view.set]{q} fs))

/-- Starting a transfer on the device: the destination, a share of the source and the semaphore at zero go in. -/
theorem wp_copy {sp : Space} {s : Shape} {e : EltTy} (c : Dev nD) (src : Memref sig .tc sp s e) (dst : Memref sig .tc .vmem s e) (i : Fin 5)
    (q : PosShare TreeShare) (fs : Buf (Elt F) (src.view.loc (c : Thread nD τ))) (fd : Buf (Elt F) (dst.view.loc (c : Thread nD τ)))
    (hpos : 0 < dst.view.dmaCredit)
    {hsrc : src.view.WordExact} {hdst : dst.view.WordExact}
    {hsem : (DmaTarget.here (p := (.tc : Proc τ)) dst).Typed (nD := nD) sp (.dma (inS i))}
    {α : Type} {Q : α → sProp 𝕄} {k : PUnit → Prog (TpuEff nD τ sig (Elt F) Λ₀ .tc) α} :
    iprop((src.view.loc (c : Thread nD τ) ↦[src.view.set]{q} fs) ∗ pts dst c fd ∗ semVal ((c : Thread nD τ), .dma (inS i)) 0)
      ⊢ iprop((Copying c src dst i q fs fd -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma (inS i)) hsrc hdst hsem) k) Q) := by
  iintro ⟨Hs, Hd, Hv⟩ Hk
  have hN : dst.view.amount (.dma (inS i)) = dst.view.dmaCredit := rfl
  iapply (Transfers.wp_dmaLocal EC 𝒱₀ (c : Thread nD τ) none () dst.view.dmaCredit hN hpos (Finset.Subset.refl dst.view.set)) $$ [Hs Hd Hv]
  · isplitl [Hs]; · iexact Hs
    isplitl [Hd] <;> iassumption
  iintro Hf
  iapply Hk
  iexact Hf

/-- Waiting for it: the destination holds what was read, the share and the semaphore at zero are back. -/
theorem wp_copied {sp : Space} {s : Shape} {e : EltTy} (c : Dev nD) (src : Memref sig .tc sp s e) (dst : Memref sig .tc .vmem s e) (i : Fin 5)
    (q : PosShare TreeShare) (fs : Buf (Elt F) (src.view.loc (c : Thread nD τ))) (fd : Buf (Elt F) (dst.view.loc (c : Thread nD τ)))
    (O : CellTallies nD τ sig Unit) (hO : High 0 O)
    {hsrc : src.view.WordExact} {hdst : dst.view.WordExact}
    {α : Type} {Q : α → sProp 𝕄} {k : PUnit → Prog (TpuEff nD τ sig (Elt F) Λ₀ .tc) α} :
    iprop(Copying c src dst i q fs fd ∗ owing c O ∗ levAts L lv)
      ⊢ iprop(((owns (c : Thread nD τ) dst fullShare (src.view.read (Elt F) fs) ∗ (src.view.loc (c : Thread nD τ) ↦[src.view.set]{q} fs)
              ∗ semVal ((c : Thread nD τ), .dma (inS i)) 0 ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (inS i) src dst hsrc hdst) k) Q) := by
  unfold owing
  iintro ⟨Hf, ⟨%W, HO⟩, #Hl⟩ Hk
  iapply (Transfers.wp_waitLocalO EC 𝒱₀ (c : Thread nD τ) none () (N := dst.view.dmaCredit) rfl) $$ [Hf HO]
  · isplitl [Hf]; · iexact Hf
    isplitl [HO]; · iexact HO
    iapply (mayWait 0 c _ (lv_low c _ (not_isRecv_in i)) O hO); iexact Hl
  iintro ⟨⟨Hd, Hs⟩, Hz, HO⟩
  iapply Hk
  isplitl [Hd]
  · have h := owns_intro (Ix := Unit) (Name := ℕ) (U := UU) (Lvl := ℕ) (Val := Elt F) (c : Thread nD τ) dst fullShare
      (dst.view.write (Elt F) fd (src.view.read (Elt F) fs) Finset.univ)
    rw [View.read_write_univ] at h
    iapply h; iexact Hd
  isplitl [Hs]; · iexact Hs
  isplitl [Hz]; · iexact Hz
  iexists _; iexact HO

/-- A fetch of the columns for the device `d` on, under way. -/
abbrev fetching (c : Dev nD) (d : Fin 4) (i : Fin 5) (q : PosShare TreeShare) (fd : Buf (Elt F) ((wSlot d).view.loc (c : Thread nD τ))) : sProp 𝕄 :=
  Copying c (wCol c d) (wSlot d) i q (m ((c : Thread nD τ).loc main_arg1)) fd

/-- A fetch of columns adds something to its semaphore. -/
theorem wCredit_pos (d : Fin 4) : 0 < (wSlot d).view.dmaCredit := View.dmaCredit_pos _ (by decide)

/-- Starting it. -/
theorem wp_fetch (c : Dev nD) (d : Fin 4) (i : Fin 5) (q : PosShare TreeShare) (fd : Buf (Elt F) ((wSlot d).view.loc (c : Thread nD τ)))
    {hsrc : (wCol c d).view.WordExact} {hdst : (wSlot d).view.WordExact}
    {hsem : (DmaTarget.here (p := (.tc : Proc τ)) (wSlot d)).Typed (nD := nD) .hbm (.dma (inS i))}
    {α : Type} {Q : α → sProp 𝕄} {k : PUnit → Prog (TpuEff nD τ sig (Elt F) Λ₀ .tc) α} :
    iprop(wPart m c d q ∗ pts (wSlot d) c fd ∗ semVal ((c : Thread nD τ), .dma (inS i)) 0)
      ⊢ iprop((fetching m c d i q fd -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wCol c d) (.here (wSlot d)) (.dma (inS i)) hsrc hdst hsem) k) Q) :=
  wp_copy c (wCol c d) (wSlot d) i q (m ((c : Thread nD τ).loc main_arg1)) fd (wCredit_pos d)

/-- Waiting for it: the slot holds the columns, the share and the semaphore at zero are back. -/
theorem wp_fetched (c : Dev nD) (d : Fin 4) (i : Fin 5) (q : PosShare TreeShare) (fd : Buf (Elt F) ((wSlot d).view.loc (c : Thread nD τ)))
    (O : CellTallies nD τ sig Unit) (hO : High 0 O)
    {hsrc : (wCol c d).view.WordExact} {hdst : (wSlot d).view.WordExact}
    {α : Type} {Q : α → sProp 𝕄} {k : PUnit → Prog (TpuEff nD τ sig (Elt F) Λ₀ .tc) α} :
    iprop(fetching m c d i q fd ∗ owing c O ∗ levAts L lv)
      ⊢ iprop(((owns (c : Thread nD τ) (wSlot d) fullShare (wOf m c d) ∗ wPart m c d q ∗ semVal ((c : Thread nD τ), .dma (inS i)) 0
              ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (inS i) (wCol c d) (wSlot d) hsrc hdst) k) Q) :=
  wp_copied c (wCol c d) (wSlot d) i q (m ((c : Thread nD τ).loc main_arg1)) fd O hO

/-! ## The blocks sent and received -/

/-- Signalling the barrier of the device `d` on, handing over the receive slot it will write. -/
theorem wp_sig (κ : ℕ) (c n : Dev nD) (d : Fin 4) (hd : d ≠ 0) (hn : n = sh d c)
    (O O' : CellTallies nD τ sig Unit) (hO : O = O' + tB c d)
    {α : Type} {Q : α → sProp 𝕄} {k : PUnit → Prog (TpuEff nD τ sig (Elt F) Λ₀ .tc) α} :
    iprop(cellInv ER (ringRd m) κ (barCell (sh d c)) ∗ owing c O ∗ dutyTok ER (barCell (sh d c)) 0 d
        ∗ landing c (rv d) ∗ reached ER (barCell (sh d c)) 0)
      ⊢ iprop((owing c O' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toInt) k) Q) := by
  subst hn
  rw [← barPay_sh, ← payload_bar m (sh d c) d]
  unfold owing
  iintro ⟨HI, ⟨%W, HO⟩, Ht, Hp, Hm⟩ Hk
  iapply (Rounds.wp_signal 𝒱₀ ER (ringRd m) (c : Thread nD τ) none (dst := (sh d c : Thread nD τ)) (κ := κ) (d := d) (k' := 1)
    (by rw [duties_bar]; clear hO; revert d; decide) (amount_bar m (sh d c) d) () O' hO) $$ [HI HO Ht Hp Hm]
  · isplitl [HI]; · iexact HI
    isplitl [HO]; · iexact HO
    isplitl [Ht]; · iexact Ht
    isplitl [Hp] <;> iassumption
  iintro HO
  iapply Hk
  iexists _; iexact HO

/-- Waiting for the three signals: the three slots to write are there. -/
theorem wp_bar (κ : ℕ) (c : Dev nD) (O : CellTallies nD τ sig Unit) (hO : High 1 O)
    {α : Type} {Q : α → sProp 𝕄} {k : PUnit → Prog (TpuEff nD τ sig (Elt F) Λ₀ .tc) α} :
    iprop(cellInv ER (ringRd m) κ (barCell c) ∗ cred (tallyAt (barCell c) () 3) ∗ owing c O ∗ levAts L lv ∗ atPos ER (barCell c) 0 ∅ 0)
      ⊢ iprop(((landing (sh 3 c) 3 ∗ landing (sh 2 c) 2 ∗ landing (sh 1 c) 1) ∗ atPos ER (barCell c) 1 ∅ 0 ∗ owing c O
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  unfold owing
  iintro ⟨HI, HC, ⟨%W, HO⟩, #Hl, Ha⟩ Hk
  iapply (Rounds.wp_wait_rest_token 𝒱₀ ER (ringRd m) (c : Thread nD τ) none (κ := κ)
      (wpE_semWait_eq 𝒱₀ (c : Thread nD τ) none Set.univ) (Set.mem_univ _) () (O := O) (W := W) (R := 0) (m := 0) (T := ∅)
      (by rw [Nat.zero_add, expect_bar]; rfl)) $$ [HI HC HO Ha]
  · isplitl [HI]; · iexact HI
    isplitl [HC]; · iexact HC
    isplitl [HO]; · iexact HO
    isplitr; · iapply (mayWait 1 c _ (lv_bar c) O hO); iexact Hl
    iexact Ha
  iintro ⟨HO, Ha, -, Hpay⟩
  ihave Hp := (Entails.of_eq (rest_bar m c)) $$ Hpay
  iapply Hk
  isplitl [Hp]; · iexact Hp
  isplitl [Ha]; · iexact Ha
  iexists _; iexact HO

/-- Sending the product for the device `d` on into its receive slot. -/
theorem wp_send_block (κ₁ κ₂ : ℕ) (c n : Dev nD) (d : Fin 4) (hd : d ≠ 0) (hn : n = sh d c)
    (O O' : CellTallies nD τ sig Unit) (hO : O = O' + tR c d)
    {hsc : (rSlot d : Memref sig (Dev.tc n : Thread nD τ).2.kind .vmem S256x256 .bf16).view.ref.isScScratch = false}
    {hsrc : (sSlot d).view.WordExact} {hdst : (rSlot d).view.WordExact}
    {hsem : DmaTarget.Typed .vmem (.dma (recvS d)) (.remote (Dev.tc n : Thread nD τ) (rSlot d) (.dma (sendS d)) hsc)}
    {α : Type} {Q : α → sProp 𝕄} {k : PUnit → Prog (TpuEff nD τ sig (Elt F) Λ₀ .tc) α} :
    iprop(cellInv ER (ringRd m) κ₁ (sendCell c d) ∗ cellInv ER (ringRd m) κ₂ (recvCell (sh d c) d)
        ∗ owns (c : Thread nD τ) (sSlot d) fullShare (blk m c d) ∗ anyAt F (rSlot d) (sh d c)
        ∗ owing c O
        ∗ dutyTok ER (sendCell c d) 0 0 ∗ reached ER (sendCell c d) 0
        ∗ dutyTok ER (recvCell (sh d c) d) 0 0 ∗ reached ER (recvCell (sh d c) d) 0)
      ⊢ iprop(((cred (tallyAt (sendCell c d) () N) ∗ owing c O')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot d) (.remote (Dev.tc n : Thread nD τ) (rSlot d) (.dma (sendS d)) hsc) (.dma (recvS d)) hsrc hdst hsem) k) Q) := by
  subst hn
  unfold owns owing
  iintro ⟨HI, HI', ⟨%fs, %hfs, Hs⟩, ⟨%fn, Hr⟩, ⟨%W, HO⟩, Ht, Hm, Ht', Hm'⟩ Hk
  iapply (Rounds.wp_send_pointsTo 𝒱₀ ER (ringRd m) (c : Thread nD τ) none (κ₁ := κ₁) (κ₂ := κ₂) (fs := fs)
    (r₁ := 0) (r₂ := 0) (d₁ := 0) (d₂ := 0) (fd := fn)
    (by rw [duties_send m c d hd]; exact Finset.mem_singleton_self _) (by rw [duties_recv m (sh d c) d hd]; exact Finset.mem_singleton_self _)
    () () N (show (rSlot d).view.amount (.dma (recvS d)) = N from rfl) (amount_send m c d 0) (amount_recv m (sh d c) d 0) O' hO (W := W)
    (by rw [payload_send m c d hd]; unfold sendPay; iintro H; iexists fs; iexact H)
    (by
      rw [payload_recv m (sh d c) d hd]; unfold recvPay; rw [un_sh]
      have h := owns_intro (Ix := Unit) (Name := ℕ) (U := UU) (Lvl := ℕ) (Val := Elt F) (sh d c : Thread nD τ) (rSlot d) fullShare
        ((rSlot d).view.write (Elt F) fn ((sSlot d).view.read (Elt F) fs) Finset.univ)
      rw [View.read_write_univ, hfs] at h
      rw [hfs]
      exact h)) $$ [HI HI' Hs Hr HO Ht Hm Ht' Hm']
  · isplitl [HI]; · iexact HI
    isplitl [HI']; · iexact HI'
    isplitl [Hs]; · iexact Hs
    isplitl [Hr]; · iexact Hr
    isplitl [HO]; · iexact HO
    isplitl [Ht]; · iexact Ht
    isplitl [Hm]; · iexact Hm
    isplitl [Ht'] <;> iassumption
  iintro ⟨Hc, HO⟩
  iapply Hk
  isplitl [Hc]; · iexact Hc
  iexists _; iexact HO

/-- Waiting for the block of the device `d` back: the receive slot holds it. -/
theorem wp_received (κ : ℕ) (c : Dev nD) (d : Fin 4) (hd : d ≠ 0)
    {hsrc : (sSlot d).view.WordExact} {hdst : (rSlot d).view.WordExact}
    {α : Type} {Q : α → sProp 𝕄} {k : PUnit → Prog (TpuEff nD τ sig (Elt F) Λ₀ .tc) α} :
    iprop(cellInv ER (ringRd m) κ (recvCell c d) ∗ cred (tallyAt (recvCell c d) () N) ∗ owing c 0 ∗ atPos ER (recvCell c d) 0 ∅ 0)
      ⊢ iprop(((owns (c : Thread nD τ) (rSlot d) fullShare (blk m (un d c) d) ∗ atPos ER (recvCell c d) 1 ∅ 0
              ∗ owing c 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS d) (sSlot d) (rSlot d) hsrc hdst) k) Q) := by
  unfold owing
  iintro ⟨HI, HC, ⟨%W, HO⟩, Ha⟩ Hk
  iapply (Rounds.wp_wait_rest_token 𝒱₀ ER (ringRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m c d hd])) $$ [HI HC HO Ha]
  · isplitl [HI]; · iexact HI
    isplitl [HC]; · iexact HC
    isplitl [HO]; · iexact HO
    isplitr; · rw [MayWait_zero]; iempintro
    iexact Ha
  iintro ⟨HO, Ha, -, Hpay⟩
  ihave Hp := (Entails.of_eq (rest_recv m c d hd)) $$ Hpay
  unfold recvPay
  iapply Hk
  isplitl [Hp]; · iexact Hp
  isplitl [Ha]; · iexact Ha
  iexists _; iexact HO

/-- Waiting for the send slot to come back. -/
theorem wp_sent (κ : ℕ) (c : Dev nD) (d : Fin 4) (hd : d ≠ 0)
    {hsrc : (rSlot d).view.WordExact} {hdst : (sSlot d).view.WordExact}
    {α : Type} {Q : α → sProp 𝕄} {k : PUnit → Prog (TpuEff nD τ sig (Elt F) Λ₀ .tc) α} :
    iprop(cellInv ER (ringRd m) κ (sendCell c d) ∗ cred (tallyAt (sendCell c d) () N) ∗ owing c 0 ∗ atPos ER (sendCell c d) 0 ∅ 0)
      ⊢ iprop(((anyAt F (sSlot d) c ∗ atPos ER (sendCell c d) 1 ∅ 0 ∗ owing c 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS d) (rSlot d) (sSlot d) hsrc hdst) k) Q) := by
  unfold owing
  iintro ⟨HI, HC, ⟨%W, HO⟩, Ha⟩ Hk
  iapply (Rounds.wp_wait_rest_token 𝒱₀ ER (ringRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send m c d hd])) $$ [HI HC HO Ha]
  · isplitl [HI]; · iexact HI
    isplitl [HC]; · iexact HC
    isplitl [HO]; · iexact HO
    isplitr; · rw [MayWait_zero]; iempintro
    iexact Ha
  iintro ⟨HO, Ha, -, Hpay⟩
  ihave Hp := (Entails.of_eq (rest_send m c d hd)) $$ Hpay
  unfold sendPay
  iapply Hk
  isplitl [Hp]; · iexact Hp
  isplitl [Ha]; · iexact Ha
  iexists _; iexact HO

/-! ## Loading and storing a slot -/

/-- A block of columns and its slot have the same number of elements. -/
theorem casts_slot : S1024x256.ShapeCasts S1x1024x256 := by decide

section Access
variable (c : Dev nD) (d : Fin 4) {α : Type}

/-- A load of a weights slot returns its columns. -/
theorem wp_load_w (X : FVec F S1024x256 .f32) {hl : wM.view.LoadsAt (rectW d).toLoadRect}
    {Q : α → sProp 𝕄} {k : ((rectW d).toLoadRect.shape.Idx → Elt F .f32) → Prog (TpuEff nD τ sig (Elt F) Λ₀ .tc) α} :
    (owns (c : Thread nD τ) (wSlot d) fullShare X : sProp 𝕄)
      ⊢ iprop((owns (c : Thread nD τ) (wSlot d) fullShare X
            -∗ wp frame (wpE (defs₀ (F := F)) 𝒱₀ (c : Thread nD τ) none) Set.univ (k (shapeCast S1x1024x256 X casts_slot)) Q)
          -∗ wp frame (wpE (defs₀ (F := F)) 𝒱₀ (c : Thread nD τ) none) Set.univ (.op (.load wM (rectW d).toLoadRect hl) k) Q) := by
  unfold owns
  iintro ⟨%f, %hf, H⟩ Hk
  iapply (wp_load 𝒱₀ (c : Thread nD τ) none Set.univ (m := wM) (load_wSlot d)) $$ H
  iintro H
  have e : wM.view.readAt (Elt F) (rectW d).toLoadRect f = shapeCast S1x1024x256 X casts_slot := by
    rw [← hf]; exact (shapeCast_shapeCast _ _ _).symm
  rw [e]
  iapply Hk
  iexists f; isplitr; · (ipureintro; exact hf)
  iexact H

/-- A load of a receive slot returns its block. -/
theorem wp_load_r (X : FVec F S256x256 .bf16) {hl : rM.view.LoadsAt (rectB d).toLoadRect}
    {Q : α → sProp 𝕄} {k : ((rectB d).toLoadRect.shape.Idx → Elt F .bf16) → Prog (TpuEff nD τ sig (Elt F) Λ₀ .tc) α} :
    (owns (c : Thread nD τ) (rSlot d) fullShare X : sProp 𝕄)
      ⊢ iprop((owns (c : Thread nD τ) (rSlot d) fullShare X
            -∗ wp frame (wpE (defs₀ (F := F)) 𝒱₀ (c : Thread nD τ) none) Set.univ (k (shapeCast S1x256x256 X shapeCasts_S256x256_S1x256x256)) Q)
          -∗ wp frame (wpE (defs₀ (F := F)) 𝒱₀ (c : Thread nD τ) none) Set.univ (.op (.load rM (rectB d).toLoadRect hl) k) Q) := by
  unfold owns
  iintro ⟨%f, %hf, H⟩ Hk
  iapply (wp_load 𝒱₀ (c : Thread nD τ) none Set.univ (m := rM) (load_rSlot d)) $$ H
  iintro H
  have e : rM.view.readAt (Elt F) (rectB d).toLoadRect f = shapeCast S1x256x256 X shapeCasts_S256x256_S1x256x256 := by
    rw [← hf]; exact (shapeCast_shapeCast _ _ _).symm
  rw [e]
  iapply Hk
  iexists f; isplitr; · (ipureintro; exact hf)
  iexact H

/-- The load of the activations returns them. -/
theorem wp_load_x (X : FVec F S256x1024 .f32) {inb : ∀ a, (![0, 0] : Fin 2 → Nat) a + S256x1024.size a ≤ S256x1024.size a}
    {hl : xM.view.LoadsAt (Rect.unit (s := S256x1024) ![0, 0] S256x1024.size inb).toLoadRect}
    {Q : α → sProp 𝕄} {k : ((Rect.unit (s := S256x1024) ![0, 0] S256x1024.size inb).toLoadRect.shape.Idx → Elt F .f32) → Prog (TpuEff nD τ sig (Elt F) Λ₀ .tc) α} :
    (owns (c : Thread nD τ) xM fullShare X : sProp 𝕄)
      ⊢ iprop((owns (c : Thread nD τ) xM fullShare X -∗ wp frame (wpE (defs₀ (F := F)) 𝒱₀ (c : Thread nD τ) none) Set.univ (k X) Q)
          -∗ wp frame (wpE (defs₀ (F := F)) 𝒱₀ (c : Thread nD τ) none) Set.univ
              (.op (.load xM (Rect.unit (s := S256x1024) ![0, 0] S256x1024.size inb).toLoadRect hl) k) Q) := by
  unfold owns
  iintro ⟨%f, %hf, H⟩ Hk
  iapply (wp_load 𝒱₀ (c : Thread nD τ) none Set.univ (m := xM) (by simp only [Memref.view_whole, View.set_whole]; exact Finset.subset_univ _)) $$ H
  iintro H
  have e : xM.view.readAt (Elt F) (Rect.unit (s := S256x1024) ![0, 0] S256x1024.size inb).toLoadRect f = X := by
    rw [← hf]; exact Memref.readAt_unit_zero (Elt F) cc0_scratch0 (funext fun a => by fin_cases a <;> rfl) _ f
  rw [e]
  iapply Hk
  iexists f; isplitr; · (ipureintro; exact hf)
  iexact H

/-- A load of a send slot whose value is not used, and the store of a product after it: the slot holds the product. -/
theorem wp_store_s (X : FVec F S256x256 .bf16) {hl : sM.view.LoadsAt (rectB d).toLoadRect}
    {w : (rectB d).shape.Idx → Elt F .bf16} (hw : w = shapeCast S1x256x256 X shapeCasts_S256x256_S1x256x256)
    {hx : (sM.access (rectB d)).Stores Finset.univ} {hm : Finset.univ = Finset.univ ∨ ∀ a, (rectB d).stride a = 1}
    {Q : α → sProp 𝕄} {k : PUnit → Prog (TpuEff nD τ sig (Elt F) Λ₀ .tc) α} :
    (anyAt F (sSlot d) c : sProp 𝕄)
      ⊢ iprop((owns (c : Thread nD τ) (sSlot d) fullShare X -∗ wp frame (wpE (defs₀ (F := F)) 𝒱₀ (c : Thread nD τ) none) Set.univ (k ⟨⟩) Q)
          -∗ wp frame (wpE (defs₀ (F := F)) 𝒱₀ (c : Thread nD τ) none) Set.univ
              (.op (.load sM (rectB d).toLoadRect hl) fun _ => .op (.store sM (rectB d) w Finset.univ hx hm) k) Q) := by
  subst hw
  iintro ⟨%f, H⟩ Hk
  iapply (wp_load 𝒱₀ (c : Thread nD τ) none Set.univ (m := sM) (load_sSlot d)) $$ H
  iintro H
  iapply (wp_store 𝒱₀ (c : Thread nD τ) none Set.univ (m := sM) (r := rectB d) (Mk := Finset.univ) (store_sSlot d)) $$ H
  iintro H
  iapply Hk
  iapply (stored c d f X); iexact H

/-- A load of rows of the result whose value is not used, and a store of those rows after it. -/
theorem wp_store_o (r : Rect S1024x256) (f : Buf (Elt F) ((c : Thread nD τ).loc cc0_stg0_0)) {hl : oM.view.LoadsAt r.toLoadRect}
    {w : r.shape.Idx → Elt F .bf16} {hx : (oM.access r).Stores Finset.univ} {hm : Finset.univ = Finset.univ ∨ ∀ a, r.stride a = 1}
    {Q : α → sProp 𝕄} {k : PUnit → Prog (TpuEff nD τ sig (Elt F) Λ₀ .tc) α} :
    (((c : Thread nD τ).loc cc0_stg0_0) ↦{fullShare} f : sProp 𝕄)
      ⊢ iprop(((((c : Thread nD τ).loc cc0_stg0_0) ↦{fullShare} ((oM.access r : View sig .tc _ _ _).write (Elt F) f w Finset.univ))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM r.toLoadRect hl) fun _ => .op (.store oM r w Finset.univ hx hm) k) Q) := by
  iintro H Hk
  iapply (wp_load 𝒱₀ (c : Thread nD τ) none Set.univ (m := oM) (Finset.subset_univ _)) $$ H
  iintro H
  iapply (wp_store 𝒱₀ (c : Thread nD τ) none Set.univ (m := oM) (r := r) (Mk := Finset.univ) (Finset.subset_univ _)) $$ H
  iintro H
  iapply Hk; iexact H

end Access

/-- The first product the device stores, from the columns a load returned. -/
theorem pay2_w (x : FVec F S256x1024 .f32) (w : FVec F S1024x256 .f32) :
    k0_pay2 (k0_pay1 x) (shapeCast S1x1024x256 w casts_slot) = shapeCast S1x256x256 (mm x w) shapeCasts_S256x256_S1x256x256 := by
  rw [pay2_eq, shapeCast_shapeCast]
/-- The second product, -/
theorem pay3_w (x : FVec F S256x1024 .f32) (w : FVec F S1024x256 .f32) :
    k0_pay3 (k0_pay1 x) (shapeCast S1x1024x256 w casts_slot) = shapeCast S1x256x256 (mm x w) shapeCasts_S256x256_S1x256x256 := by
  rw [pay3_eq, shapeCast_shapeCast]
/-- the third, -/
theorem pay4_w (x : FVec F S256x1024 .f32) (w : FVec F S1024x256 .f32) :
    k0_pay4 (k0_pay1 x) (shapeCast S1x1024x256 w casts_slot) = shapeCast S1x256x256 (mm x w) shapeCasts_S256x256_S1x256x256 := by
  rw [pay4_eq, shapeCast_shapeCast]
/-- and the one that is kept. -/
theorem pay5_w (x : FVec F S256x1024 .f32) (w : FVec F S1024x256 .f32) :
    k0_pay5 (k0_pay1 x) (shapeCast S1x1024x256 w casts_slot) = mm x w := by
  rw [pay5_eq, shapeCast_shapeCast]
/-- The first received block is stored in the result as it came. -/
theorem pay6_r (X : FVec F S256x256 .bf16) : k0_pay6 (shapeCast S1x256x256 X shapeCasts_S256x256_S1x256x256) = X := shapeCast_shapeCast X _ _
/-- The second, -/
theorem pay7_r (X : FVec F S256x256 .bf16) : k0_pay7 (shapeCast S1x256x256 X shapeCasts_S256x256_S1x256x256) = X := shapeCast_shapeCast X _ _
/-- the third. -/
theorem pay8_r (X : FVec F S256x256 .bf16) : k0_pay8 (shapeCast S1x256x256 X shapeCasts_S256x256_S1x256x256) = X := shapeCast_shapeCast X _ _

end Cert.Scatter

end
-- ==== Proof.Data.lean ====
/-
# What a device starts from and what it ends with

The cells of the protocol are numbered, the ghost state a device's program starts from is listed, and the proof data of the
pipeline's one point are given: the result window holds `outAt` after it.
-/
module

public import proofs.«01_k».proof.Proof.Steps

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The cells, numbered -/

/-- A device's seven cells: its barrier's, its three send cells, its three receive cells. -/
abbrev csem (k : Fin 7) : SemLoc sig := match k with
  | 0 => .reg barS
  | 1 => .dma (sendS 1) | 2 => .dma (sendS 2) | 3 => .dma (sendS 3)
  | 4 => .dma (recvS 1) | 5 => .dma (recvS 2) | 6 => .dma (recvS 3)
/-- Cell `k` of device `c`. -/
abbrev kcell (ck : Dev nD × Fin 7) : GSem nD τ sig := ((ck.1 : Thread nD τ), csem ck.2)

/-- The semaphores of the kernel's own: the fetches', the sends', the receives'. -/
abbrev osem (k : Fin 13) : SemLoc sig := match k with
  | 0 => .dma (inS 0) | 1 => .dma (inS 1) | 2 => .dma (inS 2) | 3 => .dma (inS 3) | 4 => .dma (inS 4)
  | 5 => .dma (sendS 0) | 6 => .dma (sendS 1) | 7 => .dma (sendS 2) | 8 => .dma (sendS 3)
  | 9 => .dma (recvS 0) | 10 => .dma (recvS 1) | 11 => .dma (recvS 2) | 12 => .dma (recvS 3)

/-! ## The ghost state of one device -/

/-- The invariants of the cells the device `c` touches: its own seven, the barriers of the three others, and the receive
    cells it sends to. -/
def invs (K : Dev nD × Fin 7 → ℕ) (c : Dev nD) : sProp 𝕄 :=
  iprop(cellInv ER (ringRd m) (K (c, 0)) (barCell c)
    ∗ cellInv ER (ringRd m) (K (c, 1)) (sendCell c 1) ∗ cellInv ER (ringRd m) (K (c, 2)) (sendCell c 2) ∗ cellInv ER (ringRd m) (K (c, 3)) (sendCell c 3)
    ∗ cellInv ER (ringRd m) (K (c, 4)) (recvCell c 1) ∗ cellInv ER (ringRd m) (K (c, 5)) (recvCell c 2) ∗ cellInv ER (ringRd m) (K (c, 6)) (recvCell c 3)
    ∗ cellInv ER (ringRd m) (K (sh 1 c, 0)) (barCell (sh 1 c)) ∗ cellInv ER (ringRd m) (K (sh 2 c, 0)) (barCell (sh 2 c)) ∗ cellInv ER (ringRd m) (K (sh 3 c, 0)) (barCell (sh 3 c))
    ∗ cellInv ER (ringRd m) (K (sh 1 c, 4)) (recvCell (sh 1 c) 1) ∗ cellInv ER (ringRd m) (K (sh 2 c, 5)) (recvCell (sh 2 c) 2) ∗ cellInv ER (ringRd m) (K (sh 3 c, 6)) (recvCell (sh 3 c) 3))

/-- The invariants may be used any number of times. -/
instance invs_persistent (K : Dev nD × Fin 7 → ℕ) (c : Dev nD) : BI.Persistent (invs m K c) := by unfold invs; infer_instance

/-- That the cells it pays, its send cells and its receive cells have reached round 0. -/
def marks (c : Dev nD) : sProp 𝕄 :=
  iprop(reached ER (barCell (sh 1 c)) 0 ∗ reached ER (barCell (sh 2 c)) 0 ∗ reached ER (barCell (sh 3 c)) 0
    ∗ reached ER (sendCell c 1) 0 ∗ reached ER (sendCell c 2) 0 ∗ reached ER (sendCell c 3) 0
    ∗ reached ER (recvCell c 1) 0 ∗ reached ER (recvCell c 2) 0 ∗ reached ER (recvCell c 3) 0
    ∗ reached ER (recvCell (sh 1 c) 1) 0 ∗ reached ER (recvCell (sh 2 c) 2) 0 ∗ reached ER (recvCell (sh 3 c) 3) 0)

/-- The records of the rounds may be used any number of times. -/
instance marks_persistent (c : Dev nD) : BI.Persistent (marks (F := F) c) := by unfold marks; infer_instance

/-- Its positions at round 0 of its seven cells. -/
def posns (c : Dev nD) : sProp 𝕄 :=
  iprop(atPos ER (barCell c) 0 ∅ 0
    ∗ atPos ER (sendCell c 1) 0 ∅ 0 ∗ atPos ER (sendCell c 2) 0 ∅ 0 ∗ atPos ER (sendCell c 3) 0 ∅ 0
    ∗ atPos ER (recvCell c 1) 0 ∅ 0 ∗ atPos ER (recvCell c 2) 0 ∅ 0 ∗ atPos ER (recvCell c 3) 0 ∅ 0)

/-- The tokens of the duties it pays: a signal and a block for each other device, and the three slots it gets back. -/
def payToks (c : Dev nD) : sProp 𝕄 :=
  iprop(dutyTok ER (barCell (sh 1 c)) 0 1 ∗ dutyTok ER (barCell (sh 2 c)) 0 2 ∗ dutyTok ER (barCell (sh 3 c)) 0 3
    ∗ dutyTok ER (sendCell c 1) 0 0 ∗ dutyTok ER (sendCell c 2) 0 0 ∗ dutyTok ER (sendCell c 3) 0 0
    ∗ dutyTok ER (recvCell (sh 1 c) 1) 0 0 ∗ dutyTok ER (recvCell (sh 2 c) 2) 0 0 ∗ dutyTok ER (recvCell (sh 3 c) 3) 0 0)

/-- All the protocol's state that a device holds at its start. -/
def ghost (K : Dev nD × Fin 7 → ℕ) (c : Dev nD) : sProp 𝕄 := iprop(invs m K c ∗ marks c ∗ posns c ∗ payToks c)

/-- The credits it waits with: its barrier's three signals, a block in each receive cell. -/
def creds (c : Dev nD) : sProp 𝕄 :=
  iprop(cred (tallyAt (barCell c) () 3) ∗ cred (tallyAt (recvCell c 1) () N) ∗ cred (tallyAt (recvCell c 2) () N) ∗ cred (tallyAt (recvCell c 3) () N))

/-- The two argument arrays, held whole at what they held at the start. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- The semaphores no protocol cell stands for, at zero. -/
def idle (c : Dev nD) : sProp 𝕄 :=
  iprop(semVal ((c : Thread nD τ), .dma (inS 0)) 0 ∗ semVal ((c : Thread nD τ), .dma (inS 1)) 0 ∗ semVal ((c : Thread nD τ), .dma (inS 2)) 0
    ∗ semVal ((c : Thread nD τ), .dma (inS 3)) 0 ∗ semVal ((c : Thread nD τ), .dma (inS 4)) 0
    ∗ semVal (sendCell c 0) 0 ∗ semVal (recvCell c 0) 0)

/-- The four scratch arrays, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The seven cells' semaphores at zero. -/
def closed (c : Dev nD) : sProp 𝕄 :=
  iprop(semVal (barCell c) 0
    ∗ semVal (sendCell c 1) 0 ∗ semVal (sendCell c 2) 0 ∗ semVal (sendCell c 3) 0
    ∗ semVal (recvCell c 1) 0 ∗ semVal (recvCell c 2) 0 ∗ semVal (recvCell c 3) 0)

/-- What the device's program starts from, beside the scratch arrays. -/
def start (c : Dev nD) : sProp 𝕄 := iprop((∃ K, ghost m K c) ∗ creds c ∗ levAts L lv ∗ args m c ∗ idle c)

/-- The whole state a device starts from. -/
def Φ₀ (c : Dev nD) : sProp 𝕄 := iprop(start m c ∗ scratch c)
/-- What it ends with: the arguments unchanged, the scratch arrays, every semaphore at zero. -/
def Φ₁ (c : Dev nD) : sProp 𝕄 := iprop(args m c ∗ scratch c ∗ closed c ∗ idle c)

/-! ## The pipeline's proof data -/

/-- The pipeline's data: the window's array as it was, the result after the point, the states and the debts before and after. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Holding whole arrays -/

/-- The elements of a whole array are its buffer. -/
theorem whole_pts (c : Dev nD) (b : Ref sig .tc) (f : Buf (Elt F) ((c : Thread nD τ).loc b)) (q : PosShare TreeShare) :
    ((Memref.whole b).view.loc (c : Thread nD τ) ↦[(Memref.whole b).view.set]{q} f : sProp 𝕄) = (((c : Thread nD τ).loc b) ↦{q} f) := by
  simp only [Memref.view_whole, View.set_whole]

/-- Owning a whole array at contents is holding its buffer at those contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The rest of the weights, beside the columns for the device `d` on. -/
abbrev wRest (c : Dev nD) (d : Fin 4) (q : PosShare TreeShare) : sProp 𝕄 :=
  (c : Thread nD τ).loc main_arg1 ↦[Finset.univ \ (wCol c d).view.set]{q} m ((c : Thread nD τ).loc main_arg1)

/-- The weights held at a share are the columns for one device and the rest, -/
theorem w_take (c : Dev nD) (d : Fin 4) (q : PosShare TreeShare) :
    (((c : Thread nD τ).loc main_arg1) ↦{q} m ((c : Thread nD τ).loc main_arg1) : sProp 𝕄) ⊢ iprop(wPart m c d q ∗ wRest m c d q) :=
  (pointsTo_split_subset (Finset.subset_univ _)).1
/-- and back. -/
theorem w_back (c : Dev nD) (d : Fin 4) (q : PosShare TreeShare) :
    iprop(wPart m c d q ∗ wRest m c d q) ⊢ (((c : Thread nD τ).loc main_arg1) ↦{q} m ((c : Thread nD τ).loc main_arg1) : sProp 𝕄) :=
  (pointsTo_split_subset (Finset.subset_univ _)).2

/-- The weights held whole are held twice at half the share. -/
theorem w_halves (c : Dev nD) :
    (((c : Thread nD τ).loc main_arg1) ↦{fullShare} m ((c : Thread nD τ).loc main_arg1) : sProp 𝕄)
      ⊣⊢ iprop((((c : Thread nD τ).loc main_arg1) ↦{fullShare.left} m ((c : Thread nD τ).loc main_arg1))
        ∗ (((c : Thread nD τ).loc main_arg1) ↦{fullShare.right} m ((c : Thread nD τ).loc main_arg1))) :=
  pointsTo_share (PosShare.mem_left_op_right fullShare)

end Cert.Scatter

end
-- ==== Proof.Body.lean ====
/-
# One device's program

The body of the kernel, run once on a device `c`: it signals the three others, fetches the columns of the weights one block
at a time, multiplies, sends three blocks and keeps one, and copies the three blocks it receives into its result.
-/
module

public import proofs.«01_k».proof.Proof.Data

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The kernel's body on its arrays and semaphores. -/
abbrev theBody : Prog (TpuEff nD τ sig (Elt F) Λ₀ .tc) PUnit :=
  cc0_body xA (Memref.isWhole_whole _) wA (Memref.isWhole_whole _) oM (Memref.isWhole_whole _) xM (Memref.isWhole_whole _)
    wM (Memref.isWhole_whole _) sM (Memref.isWhole_whole _) rM (Memref.isWhole_whole _) cc0_scratch4 cc0_scratch5 cc0_scratch6

/-! ## Before and after the body -/

/-- The result window's staging buffer at `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- The fetch of the activations adds something to its semaphore. -/
theorem xCredit_pos : 0 < xM.view.dmaCredit := View.dmaCredit_pos _ (by decide)

/-- A memref held at known contents is held at some contents. -/
theorem owns_any {sp : Space} {s : Shape} {e : EltTy} (c : Dev nD) (M : Memref sig .tc sp s e) (X : s.Idx → Elt F e) :
    (owns (c : Thread nD τ) M fullShare X : sProp 𝕄) ⊢ anyAt F M c := by
  unfold owns
  iintro ⟨%f, -, H⟩; iexists f; iexact H

/-- The result's staging buffer at contents equal to the device's result is that buffer at the result. -/
theorem stg_eq (c : Dev nD) (X : Buf (Elt F) ((c : Thread nD τ).loc cc0_stg0_0)) (h : X = outAt m c) :
    ((((c : Thread nD τ).loc cc0_stg0_0) ↦{fullShare} X) : sProp 𝕄) ⊢ (((c : Thread nD τ).loc cc0_stg0_0) ↦{fullShare} outAt m c) :=
  Entails.of_eq (by rw [h])

/-- The whole activations read back are the device's rows. -/
theorem x_read (c : Dev nD) : xA.view.read (Elt F) (m ((c : Thread nD τ).loc main_arg0)) = xOf m c := View.read_whole _ _

set_option maxHeartbeats 4000000 in
/-- The program of device `c`, one rule per step in program order. -/
theorem sound_body (K : Dev nD × Fin 7 → ℕ) (c : Dev nD) (Kt : PUnit → sProp 𝕄) (f₀ : Buf (Elt F) ((c : Thread nD τ).loc cc0_stg0_0)) :
    iprop((ghost m K c ∗ creds c ∗ levAts L lv ∗ args m c ∗ idle c ∗ scratch c ∗ owing c (O₀ c) ∗ (((c : Thread nD τ).loc cc0_stg0_0) ↦{fullShare} f₀))
        ∗ ((Φ₁ m c ∗ owing c 0 ∗ (((c : Thread nD τ).loc cc0_stg0_0) ↦{fullShare} outAt m c)) -∗ Kt ⟨⟩))
      ⊢ wp frame (wpE (defs₀ (F := F)) 𝒱₀ c none) Set.univ (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold ghost invs marks posns payToks creds args idle scratch
  iintro ⟨⟨⟨⟨#HIb, #HIs1, #HIs2, #HIs3, #HIr1, #HIr2, #HIr3, #HIb1, #HIb2, #HIb3, #HIv1, #HIv2, #HIv3⟩,
      ⟨#Hmb1, #Hmb2, #Hmb3, #Hms1, #Hms2, #Hms3, #Hmr1, #Hmr2, #Hmr3, #Hmv1, #Hmv2, #Hmv3⟩,
      ⟨Hpb, Hps1, Hps2, Hps3, Hpr1, Hpr2, Hpr3⟩,
      ⟨Htb1, Htb2, Htb3, Hts1, Hts2, Hts3, Htv1, Htv2, Htv3⟩⟩,
    ⟨Hcb, Hcr1, Hcr2, Hcr3⟩, #Hl, ⟨Hx, Hw⟩, ⟨Hi0, Hi1, Hi2, Hi3, Hi4, Hz5, Hz9⟩,
    ⟨⟨%fx, Hxm⟩, ⟨%fw, Hwm⟩, ⟨%fs, Hsm⟩, ⟨%fr, Hrm⟩⟩, HO, Hout⟩, Hk⟩
  -- the scratch arrays into slots, the weights into shares
  ihave Hwm := (w_split c fw) $$ Hwm
  icases Hwm with ⟨⟨%fw0, Hw0⟩, ⟨%fw1, Hw1⟩, ⟨%fw2, Hw2⟩, ⟨%fw3, Hw3⟩⟩
  ihave Hsm := (s_split c fs) $$ Hsm
  icases Hsm with ⟨Hs0, Hs1, Hs2, Hs3⟩
  ihave Hrm := (r_split c fr) $$ Hrm
  icases Hrm with ⟨Hr0, Hr1, Hr2, Hr3⟩
  ihave Hw := (w_halves m c).1 $$ Hw
  icases Hw with ⟨HwL, HwR⟩
  ihave HwL := (w_take m c 2 fullShare.left) $$ HwL
  icases HwL with ⟨HwL, HwL'⟩
  ihave HwR := (w_take m c 1 fullShare.right) $$ HwR
  icases HwR with ⟨HwR, HwR'⟩
  ihave Hx := (Entails.of_eq (whole_pts c main_arg0 (m ((c : Thread nD τ).loc main_arg0)) fullShare).symm) $$ Hx
  ihave Hxm := (Entails.of_eq (whole_pts c cc0_scratch0 fx fullShare).symm) $$ Hxm
  -- the activations and the first block of columns on their way
  iapply (wp_copy c xA xM 0 fullShare (m ((c : Thread nD τ).loc main_arg0)) fx xCredit_pos) $$ [Hx Hxm Hi0]
  · isplitl [Hx]; · iexact Hx
    isplitl [Hxm] <;> iassumption
  iintro Hf0
  iapply (wp_fetch m c 2 3 fullShare.left fw2) $$ [HwL Hw2 Hi3]
  · isplitl [HwL]; · iexact HwL
    isplitl [Hw2] <;> iassumption
  iintro Hf2
  -- the three signals, each with the receive slot its device will write
  unfold O₀
  iapply (wp_sig m (K (sh 1 c, 0)) c _ 1 (by decide) (dev1_eq c) _ (Oe c) rfl) $$ [HO Htb1 Hr3]
  · isplitr; · iexact HIb1
    isplitl [HO]; · iexact HO
    isplitl [Htb1]; · iexact Htb1
    isplitl [Hr3]
    · unfold landing; isplitl [Hr3]; · iexact Hr3
      iexact Hmr3
    iexact Hmb1
  iintro HO
  iapply (wp_sig m (K (sh 2 c, 0)) c _ 2 (by decide) (dev2_eq c) _ (Od c) rfl) $$ [HO Htb2 Hr2]
  · isplitr; · iexact HIb2
    isplitl [HO]; · iexact HO
    isplitl [Htb2]; · iexact Htb2
    isplitl [Hr2]
    · unfold landing; isplitl [Hr2]; · iexact Hr2
      iexact Hmr2
    iexact Hmb2
  iintro HO
  iapply (wp_sig m (K (sh 3 c, 0)) c _ 3 (by decide) (dev3_eq c) _ (Oc c) rfl) $$ [HO Htb3 Hr1]
  · isplitr; · iexact HIb3
    isplitl [HO]; · iexact HO
    isplitl [Htb3]; · iexact Htb3
    isplitl [Hr1]
    · unfold landing; isplitl [Hr1]; · iexact Hr1
      iexact Hmr1
    iexact Hmb3
  iintro HO
  -- the wait for the three signals: the slots to write
  iapply (wp_bar m (K (c, 0)) c (Oc c) (high_c c 1 (by decide))) $$ [Hcb HO Hpb]
  · isplitr; · iexact HIb
    isplitl [Hcb]; · iexact Hcb
    isplitl [HO]; · iexact HO
    isplitr; · iexact Hl
    iexact Hpb
  unfold landing
  iintro ⟨⟨⟨Hd3, -⟩, ⟨Hd2, -⟩, ⟨Hd1, -⟩⟩, Hpb, HO⟩
  -- the activations are there, the second block of columns is on its way
  iapply (wp_copied c xA xM 0 fullShare (m ((c : Thread nD τ).loc main_arg0)) fx (Oc c) (high_c c 0 (by decide))) $$ [Hf0 HO]
  · isplitl [Hf0]; · iexact Hf0
    isplitl [HO]; · iexact HO
    iexact Hl
  iintro ⟨Hxm, Hx, Hi0, HO⟩
  iapply (wp_fetch m c 1 2 fullShare.right fw1) $$ [HwR Hw1 Hi2]
  · isplitl [HwR]; · iexact HwR
    isplitl [Hw1] <;> iassumption
  iintro Hf1
  rw [x_read m c]
  iapply (wp_load_x c (xOf m c)) $$ Hxm; iintro Hxm
  -- the product for the device two on: fetched, multiplied, sent
  iapply (wp_fetched m c 2 3 fullShare.left fw2 (Oc c) (high_c c 0 (by decide))) $$ [Hf2 HO]
  · isplitl [Hf2]; · iexact Hf2
    isplitl [HO]; · iexact HO
    iexact Hl
  iintro ⟨Hw2, HwL, Hi3, HO⟩
  ihave HwL := (w_back m c 2 fullShare.left) $$ [HwL HwL']
  · isplitl [HwL] <;> iassumption
  ihave HwL := (w_take m c 3 fullShare.left) $$ HwL
  icases HwL with ⟨HwL, HwL'⟩
  iapply (wp_fetch m c 3 4 fullShare.left fw3) $$ [HwL Hw3 Hi4]
  · isplitl [HwL]; · iexact HwL
    isplitl [Hw3] <;> iassumption
  iintro Hf3
  iapply (wp_load_w c 2 (wOf m c 2)) $$ Hw2; iintro Hw2
  iapply (wp_store_s c 2 (blk m c 2) (pay2_w (xOf m c) (wOf m c 2))) $$ Hs2; iintro Hs2
  iapply (wp_send_block m (K (c, 2)) (K (sh 2 c, 5)) c _ 2 (by decide) (dev4_eq c) _ (Ob c) rfl) $$ [Hs2 Hd2 HO Hts2 Htv2]
  · isplitr; · iexact HIs2
    isplitr; · iexact HIv2
    isplitl [Hs2]; · iexact Hs2
    isplitl [Hd2]; · iexact Hd2
    isplitl [HO]; · iexact HO
    isplitl [Hts2]; · iexact Hts2
    isplitr; · iexact Hms2
    isplitl [Htv2]; · iexact Htv2
    iexact Hmv2
  iintro ⟨Hcs2, HO⟩
  -- the product for the device one on
  iapply (wp_fetched m c 1 2 fullShare.right fw1 (Ob c) (high_b c 0 (by decide))) $$ [Hf1 HO]
  · isplitl [Hf1]; · iexact Hf1
    isplitl [HO]; · iexact HO
    iexact Hl
  iintro ⟨Hw1, HwR, Hi2, HO⟩
  ihave HwR := (w_back m c 1 fullShare.right) $$ [HwR HwR']
  · isplitl [HwR] <;> iassumption
  ihave HwR := (w_take m c 0 fullShare.right) $$ HwR
  icases HwR with ⟨HwR, HwR'⟩
  iapply (wp_fetch m c 0 1 fullShare.right fw0) $$ [HwR Hw0 Hi1]
  · isplitl [HwR]; · iexact HwR
    isplitl [Hw0] <;> iassumption
  iintro Hf0
  iapply (wp_load_w c 1 (wOf m c 1)) $$ Hw1; iintro Hw1
  iapply (wp_store_s c 1 (blk m c 1) (pay3_w (xOf m c) (wOf m c 1))) $$ Hs1; iintro Hs1
  iapply (wp_send_block m (K (c, 1)) (K (sh 1 c, 4)) c _ 1 (by decide) (dev5_eq c) _ (Oa c) rfl) $$ [Hs1 Hd1 HO Hts1 Htv1]
  · isplitr; · iexact HIs1
    isplitr; · iexact HIv1
    isplitl [Hs1]; · iexact Hs1
    isplitl [Hd1]; · iexact Hd1
    isplitl [HO]; · iexact HO
    isplitl [Hts1]; · iexact Hts1
    isplitr; · iexact Hms1
    isplitl [Htv1]; · iexact Htv1
    iexact Hmv1
  iintro ⟨Hcs1, HO⟩
  -- the product for the device three on
  iapply (wp_fetched m c 3 4 fullShare.left fw3 (Oa c) (high_a c 0 (by decide))) $$ [Hf3 HO]
  · isplitl [Hf3]; · iexact Hf3
    isplitl [HO]; · iexact HO
    iexact Hl
  iintro ⟨Hw3, HwL, Hi4, HO⟩
  ihave HwL := (w_back m c 3 fullShare.left) $$ [HwL HwL']
  · isplitl [HwL] <;> iassumption
  iapply (wp_load_w c 3 (wOf m c 3)) $$ Hw3; iintro Hw3
  iapply (wp_store_s c 3 (blk m c 3) (pay4_w (xOf m c) (wOf m c 3))) $$ Hs3; iintro Hs3
  iapply (wp_send_block m (K (c, 3)) (K (sh 3 c, 6)) c _ 3 (by decide) (dev6_eq c) _ 0 (zero_add _).symm) $$ [Hs3 Hd3 HO Hts3 Htv3]
  · isplitr; · iexact HIs3
    isplitr; · iexact HIv3
    isplitl [Hs3]; · iexact Hs3
    isplitl [Hd3]; · iexact Hd3
    isplitl [HO]; · iexact HO
    isplitl [Hts3]; · iexact Hts3
    isplitr; · iexact Hms3
    isplitl [Htv3]; · iexact Htv3
    iexact Hmv3
  iintro ⟨Hcs3, HO⟩
  -- the product the device keeps
  iapply (wp_fetched m c 0 1 fullShare.right fw0 0 (High.zero 0)) $$ [Hf0 HO]
  · isplitl [Hf0]; · iexact Hf0
    isplitl [HO]; · iexact HO
    iexact Hl
  iintro ⟨Hw0, HwR, Hi1, HO⟩
  ihave HwR := (w_back m c 0 fullShare.right) $$ [HwR HwR']
  · isplitl [HwR] <;> iassumption
  iapply (wp_load_w c 0 (wOf m c 0)) $$ Hw0; iintro Hw0
  rw [pay5_w]
  iapply (wp_store_o c _ _) $$ Hout; iintro Hout
  -- the three blocks received
  iapply (wp_received m (K (c, 4)) c 1 (by decide)) $$ [Hcr1 HO Hpr1]
  · isplitr; · iexact HIr1
    isplitl [Hcr1]; · iexact Hcr1
    isplitl [HO] <;> iassumption
  iintro ⟨Hr1, Hpr1, HO⟩
  iapply (wp_load_r c 1 (blk m (un 1 c) 1)) $$ Hr1; iintro Hr1
  rw [pay6_r]
  iapply (wp_store_o c _ _) $$ Hout; iintro Hout
  iapply (wp_received m (K (c, 5)) c 2 (by decide)) $$ [Hcr2 HO Hpr2]
  · isplitr; · iexact HIr2
    isplitl [Hcr2]; · iexact Hcr2
    isplitl [HO] <;> iassumption
  iintro ⟨Hr2, Hpr2, HO⟩
  iapply (wp_load_r c 2 (blk m (un 2 c) 2)) $$ Hr2; iintro Hr2
  rw [pay7_r]
  iapply (wp_store_o c _ _) $$ Hout; iintro Hout
  iapply (wp_received m (K (c, 6)) c 3 (by decide)) $$ [Hcr3 HO Hpr3]
  · isplitr; · iexact HIr3
    isplitl [Hcr3]; · iexact Hcr3
    isplitl [HO] <;> iassumption
  iintro ⟨Hr3, Hpr3, HO⟩
  iapply (wp_load_r c 3 (blk m (un 3 c) 3)) $$ Hr3; iintro Hr3
  rw [pay8_r]
  iapply (wp_store_o c _ _) $$ Hout; iintro Hout
  -- the send slots back
  iapply (wp_sent m (K (c, 2)) c 2 (by decide)) $$ [Hcs2 HO Hps2]
  · isplitr; · iexact HIs2
    isplitl [Hcs2]; · iexact Hcs2
    isplitl [HO] <;> iassumption
  iintro ⟨Hs2, Hps2, HO⟩
  iapply (wp_sent m (K (c, 1)) c 1 (by decide)) $$ [Hcs1 HO Hps1]
  · isplitr; · iexact HIs1
    isplitl [Hcs1]; · iexact Hcs1
    isplitl [HO] <;> iassumption
  iintro ⟨Hs1, Hps1, HO⟩
  iapply (wp_sent m (K (c, 3)) c 3 (by decide)) $$ [Hcs3 HO Hps3]
  · isplitr; · iexact HIs3
    isplitl [Hcs3]; · iexact Hcs3
    isplitl [HO] <;> iassumption
  iintro ⟨Hs3, Hps3, HO⟩
  -- the cells close
  imod (Rounds.cell_close ER (ringRd m) (Set.mem_univ (K (c, 0))) (fun h => h) (R := 0 + 1) (duties_later m (barCell c))) $$ [Hpb] with Hpb
  · isplitr; · iexact HIb
    iexact Hpb
  imod (Rounds.cell_close ER (ringRd m) (Set.mem_univ (K (c, 1))) (fun h => h) (R := 0 + 1) (duties_later m (sendCell c 1))) $$ [Hps1] with Hps1
  · isplitr; · iexact HIs1
    iexact Hps1
  imod (Rounds.cell_close ER (ringRd m) (Set.mem_univ (K (c, 2))) (fun h => h) (R := 0 + 1) (duties_later m (sendCell c 2))) $$ [Hps2] with Hps2
  · isplitr; · iexact HIs2
    iexact Hps2
  imod (Rounds.cell_close ER (ringRd m) (Set.mem_univ (K (c, 3))) (fun h => h) (R := 0 + 1) (duties_later m (sendCell c 3))) $$ [Hps3] with Hps3
  · isplitr; · iexact HIs3
    iexact Hps3
  imod (Rounds.cell_close ER (ringRd m) (Set.mem_univ (K (c, 4))) (fun h => h) (R := 0 + 1) (duties_later m (recvCell c 1))) $$ [Hpr1] with Hpr1
  · isplitr; · iexact HIr1
    iexact Hpr1
  imod (Rounds.cell_close ER (ringRd m) (Set.mem_univ (K (c, 5))) (fun h => h) (R := 0 + 1) (duties_later m (recvCell c 2))) $$ [Hpr2] with Hpr2
  · isplitr; · iexact HIr2
    iexact Hpr2
  imod (Rounds.cell_close ER (ringRd m) (Set.mem_univ (K (c, 6))) (fun h => h) (R := 0 + 1) (duties_later m (recvCell c 3))) $$ [Hpr3] with Hpr3
  · isplitr; · iexact HIr3
    iexact Hpr3
  rw [wp_ret]; imodintro
  iapply Hk
  unfold Φ₁ args scratch closed idle
  -- the arguments
  ihave Hx := (Entails.of_eq (whole_pts c main_arg0 (m ((c : Thread nD τ).loc main_arg0)) fullShare)) $$ Hx
  ihave Hw := (w_halves m c).2 $$ [HwL HwR]
  · isplitl [HwL] <;> iassumption
  -- the scratch arrays
  ihave Hxm := (Entails.of_eq (owns_whole c cc0_scratch0 (xOf m c))) $$ Hxm
  icases Hxm with ⟨%gx, -, Hxm⟩
  ihave Hw0 := (owns_any c (wSlot 0) _) $$ Hw0
  ihave Hw1 := (owns_any c (wSlot 1) _) $$ Hw1
  ihave Hw2 := (owns_any c (wSlot 2) _) $$ Hw2
  ihave Hw3 := (owns_any c (wSlot 3) _) $$ Hw3
  ihave Hr1 := (owns_any c (rSlot 1) _) $$ Hr1
  ihave Hr2 := (owns_any c (rSlot 2) _) $$ Hr2
  ihave Hr3 := (owns_any c (rSlot 3) _) $$ Hr3
  ihave Hwm := (w_join (F := F) c) $$ [Hw0 Hw1 Hw2 Hw3]
  · isplitl [Hw0]; · iexact Hw0
    isplitl [Hw1]; · iexact Hw1
    isplitl [Hw2] <;> iassumption
  ihave Hsm := (s_join (F := F) c) $$ [Hs0 Hs1 Hs2 Hs3]
  · isplitl [Hs0]; · iexact Hs0
    isplitl [Hs1]; · iexact Hs1
    isplitl [Hs2] <;> iassumption
  ihave Hrm := (r_join (F := F) c) $$ [Hr0 Hr1 Hr2 Hr3]
  · isplitl [Hr0]; · iexact Hr0
    isplitl [Hr1]; · iexact Hr1
    isplitl [Hr2] <;> iassumption
  isplitr [HO Hout]
  · isplitl [Hx Hw]
    · isplitl [Hx] <;> iassumption
    isplitl [Hxm Hwm Hsm Hrm]
    · isplitl [Hxm]; · iexists gx; iexact Hxm
      isplitl [Hwm]; · iexact Hwm
      isplitl [Hsm] <;> iassumption
    isplitl [Hpb Hps1 Hps2 Hps3 Hpr1 Hpr2 Hpr3]
    · isplitl [Hpb]; · iexact Hpb
      isplitl [Hps1]; · iexact Hps1
      isplitl [Hps2]; · iexact Hps2
      isplitl [Hps3]; · iexact Hps3
      isplitl [Hpr1]; · iexact Hpr1
      isplitl [Hpr2] <;> iassumption
    isplitl [Hi0]; · iexact Hi0
    isplitl [Hi1]; · iexact Hi1
    isplitl [Hi2]; · iexact Hi2
    isplitl [Hi3]; · iexact Hi3
    isplitl [Hi4]; · iexact Hi4
    isplitl [Hz5] <;> iassumption
  isplitl [HO]; · iexact HO
  iapply (stg_eq m c _ ?_)
  rotate_left
  · iexact Hout
  · exact writes_eq m c f₀

/-! ## The obligation of the pipeline's point -/

/-- What the pipeline's point hands the body, -/
def bodyPre (c : Dev nD) : sProp 𝕄 :=
  iprop(Φ₀ m c ∗ (dats m 0 c).owesAt () t0_0.castSucc ∗ (∃ d, stg c ((dats m 0 c).before (0 : Fin 1) t0_0 d)))
/-- what it gives back: its closing state, nothing owed, the result in the staging buffer. -/
def bodyPost (c : Dev nD) : sProp 𝕄 :=
  iprop(Φ₁ m c ∗ (dats m 0 c).owesAt () t0_0.succ ∗ stg c (outAt m c))

/-- The body meets what the pipeline asks of it at its one point: from the state before to the state after, the staging buffer holding the device's result. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ c none) Set.univ (theBody (F := F)) (fun _ => bodyPost m c)
  unfold bodyPre Φ₀ start Dat.owesAt Pipeline.owesWithin
  rw [show (dats m 0 c).owed t0_0.castSucc = O₀ c from rfl]
  iintro ⟨⟨⟨⟨%K, Hg⟩, Hc, Hl, Ha, Hi⟩, Hs⟩, ⟨%W, -, HO⟩, ⟨%d, %g, -, Hout⟩⟩
  iapply (sound_body m K c (fun _ => bodyPost m c) g)
  isplitr []
  · isplitl [Hg]; · iexact Hg
    isplitl [Hc]; · iexact Hc
    isplitl [Hl]; · iexact Hl
    isplitl [Ha]; · iexact Ha
    isplitl [Hi]; · iexact Hi
    isplitl [Hs]; · iexact Hs
    isplitl [HO]; · unfold owing; iexists W; iexact HO
    iexact Hout
  · unfold bodyPost owing Dat.owesAt Pipeline.owesWithin
    rw [show (dats m 0 c).owed t0_0.succ = 0 from rfl]
    iintro ⟨H, ⟨%W', HO⟩, Hout⟩
    isplitl [H]; · iexact H
    isplitl [HO]
    · iexists W'
      isplitr; · ipureintro; exact fun _ _ => Or.inl trivial
      iexact HO
    iexists _; isplitr; · (ipureintro; rfl)
    iexact Hout

end Cert.Scatter

end
-- ==== Proof.Launch.lean ====
/-
# The launch

What the four devices hold when the kernel starts. The ghost state of the twenty-eight cells is funded, every cell's invariant
allocated, and each device given the records of the cells it touches, its own positions and the tokens of the duties it pays
(`glob`). The credit it starts with is what the three others owe it (`creds_intro`).
-/
module

public import proofs.«01_k».proof.Proof.Data

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and their tokens -/

/-- The thirteen semaphores are the kernel's own, each listed once. -/
theorem ownSemFacts : Pipeline.OwnSemFacts cfg0.spec osem := by decide

/-- A device's seven cells are different semaphores. -/
theorem csem_injective : Function.Injective csem := by decide

/-- Different numbers of device and cell name different cells. -/
theorem kcell_injective : Function.Injective (kcell : Dev nD × Fin 7 → GSem nD τ sig) := fun ⟨c, k⟩ ⟨c', k'⟩ h => by
  have hc : c = c' := congrArg (fun g : GSem nD τ sig => g.1.1) h
  have hk : k = k' := csem_injective (congrArg Prod.snd h)
  rw [hc, hk]

/-- All cells of the protocol. -/
def ringCells : Finset (GSem nD τ sig) := Finset.univ.map ⟨kcell, kcell_injective⟩

/-- The nine duties of a device's own cells: the three of its barrier, one of each of the others. -/
abbrev tokCell (j : Fin 9) : Fin 7 := match j with
  | 0 => 0 | 1 => 0 | 2 => 0 | 3 => 1 | 4 => 2 | 5 => 3 | 6 => 4 | 7 => 5 | 8 => 6
/-- The duty each of the nine stands for, -/
abbrev tokDuty (j : Fin 9) : Fin 4 := match j with
  | 0 => 1 | 1 => 2 | 2 => 3 | 3 => 0 | 4 => 0 | 5 => 0 | 6 => 0 | 7 => 0 | 8 => 0
/-- and its token, by device and number. -/
abbrev tokOf (cj : Dev nD × Fin 9) : GSem nD τ sig × ℕ × Fin 4 := (kcell (cj.1, tokCell cj.2), 0, tokDuty cj.2)

/-- A device's nine tokens differ, -/
theorem tok_inj : ∀ j j' : Fin 9, tokCell j = tokCell j' → tokDuty j = tokDuty j' → j = j' := by decide

/-- and so do those of all devices. -/
theorem tokOf_injective : Function.Injective (tokOf : Dev nD × Fin 9 → GSem nD τ sig × ℕ × Fin 4) := fun ⟨c, j⟩ ⟨c', j'⟩ h => by
  have hk := kcell_injective (congrArg Prod.fst h)
  have hc : c = c' := congrArg Prod.fst hk
  have hj : j = j' := tok_inj j j' (congrArg Prod.snd hk) (congrArg (fun x : GSem nD τ sig × ℕ × Fin 4 => x.2.2) h)
  rw [hc, hj]

/-- The tokens of all duties. -/
def ringToks : Finset (GSem nD τ sig × ℕ × Fin 4) := Finset.univ.map ⟨tokOf, tokOf_injective⟩

/-- The ghost state at launch: the pipeline's, the cells', no counter. -/
def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- A conjunction over seven is its seven parts; -/
theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- over nine, its nine parts. -/
theorem bigSep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- What the funding deals device `c`: its cells at round 0, its positions and their records, its cells' tokens. -/
def dealt (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)

/-- A conjunction over all cells is one over the devices and their seven cells. -/
theorem over_cells (Φ : GSem nD τ sig → sProp 𝕄) :
    bigSep ringCells Φ = bigSep Finset.univ fun c : Dev nD => bigSep Finset.univ fun k : Fin 7 => Φ (kcell (c, k)) := by
  unfold ringCells; rw [bigSep_map, bigSep_univ_prod]; rfl

/-- The tokens of all duties are every device's own. -/
theorem over_toks : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep9]; rfl

/-- The protocol's initial state is dealt to the devices. -/
theorem fund_ring : BI.own (ER (initOf ringCells ringToks)) ⊢ (|==> bigSep Finset.univ (dealt m) : sProp 𝕄) := by
  iintro HX
  imod (Rounds.fund ER (ringRd m) ringCells ringToks) $$ HX with ⟨Hst, Hr, Hat, Htok⟩
  imodintro
  ihave Hst := (Entails.of_eq (over_cells fun g => roundState ER (ringRd m) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks (F := F))) $$ Htok
  unfold dealt; simp only [bigSep_sep']
  isplitl [Hst]; · iexact Hst
  isplitl [Hat Hr]
  · isplitl [Hat] <;> iassumption
  iexact Htok

/-! ## The semaphores -/

/-- The kernel's own thirteen semaphores; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (inS 0)) 0 ∗ semVal ((c : Thread nD τ), .dma (inS 1)) 0 ∗ semVal ((c : Thread nD τ), .dma (inS 2)) 0
      ∗ semVal ((c : Thread nD τ), .dma (inS 3)) 0 ∗ semVal ((c : Thread nD τ), .dma (inS 4)) 0
      ∗ semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7, 8, 9, 10, 11, 12] (by decide) (by decide)]; rfl

/-- the barrier semaphore is the one semaphore that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the seven cells' and the seven no cell stands for. -/
theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ idle c) : sProp 𝕄) := by
  rw [ownSems0_eq, unscopedSems0_eq, bigSep7]; unfold idle
  iintro ⟨⟨H0, H1, H2, H3, H4, Hs0, Hs1, Hs2, Hs3, Hr0, Hr1, Hr2, Hr3⟩, HB⟩
  isplitl [HB Hs1 Hs2 Hs3 Hr1 Hr2 Hr3]
  · isplitl [HB]; · iexact HB
    isplitl [Hs1]; · iexact Hs1
    isplitl [Hs2]; · iexact Hs2
    isplitl [Hs3]; · iexact Hs3
    isplitl [Hr1]; · iexact Hr1
    isplitl [Hr2] <;> iassumption
  isplitl [H0]; · iexact H0
  isplitl [H1]; · iexact H1
  isplitl [H2]; · iexact H2
  isplitl [H3]; · iexact H3
  isplitl [H4]; · iexact H4
  isplitl [Hs0] <;> iassumption

/-- The same the other way round, after the run. -/
theorem sems1 (c : Dev nD) :
    (iprop(closed c ∗ idle c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]; unfold idle closed
  iintro ⟨⟨HB, Hs1, Hs2, Hs3, Hr1, Hr2, Hr3⟩, H0, H1, H2, H3, H4, Hs0, Hr0⟩
  isplitl [HB]; · iexact HB
  isplitl [H0]; · iexact H0
  isplitl [H1]; · iexact H1
  isplitl [H2]; · iexact H2
  isplitl [H3]; · iexact H3
  isplitl [H4]; · iexact H4
  isplitl [Hs0]; · iexact Hs0
  isplitl [Hs1]; · iexact Hs1
  isplitl [Hs2]; · iexact Hs2
  isplitl [Hs3]; · iexact Hs3
  isplitl [Hr0]; · iexact Hr0
  isplitl [Hr1]; · iexact Hr1
  isplitl [Hr2] <;> iassumption

/-! ## The invariants and who knows them -/

/-- One device's seven invariants allocated. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ idle c) := by
  unfold dealt
  iintro ⟨Hos, Hus, Hst, Hat, Htok⟩
  ihave Hv := (sems0 (F := F) c) $$ [Hos Hus]
  · isplitl [Hos] <;> iassumption
  icases Hv with ⟨Hv, Hid⟩
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every cell's invariant, and that each has reached round 0. -/
def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

/-- The records may be used any number of times. -/
instance records_persistent (K : Dev nD × Fin 7 → ℕ) : BI.Persistent (records m K) := by unfold records; infer_instance

/-- The records hold every cell's invariant, -/
theorem inv_at (K : Dev nD × Fin 7 → ℕ) (ck : Dev nD × Fin 7) : records m K ⊢ cellInv ER (ringRd m) (K ck) (kcell ck) := by
  unfold records; exact sep_elim_left.trans (BI.bigSep_elim (Finset.mem_univ ck))
/-- and that every cell has reached round 0; -/
theorem reached_at (K : Dev nD × Fin 7 → ℕ) (ck : Dev nD × Fin 7) : records m K ⊢ (reached ER (kcell ck) 0 : sProp 𝕄) := by
  unfold records; exact sep_elim_right.trans (BI.bigSep_elim (Finset.mem_univ ck))

/-- so the invariants of the cells a device touches, -/
theorem invs_intro (K : Dev nD × Fin 7 → ℕ) (c : Dev nD) : records m K ⊢ invs m K c := by
  unfold invs
  iintro #H
  isplitr; · iapply (inv_at m K (c, 0)); iexact H
  isplitr; · iapply (inv_at m K (c, 1)); iexact H
  isplitr; · iapply (inv_at m K (c, 2)); iexact H
  isplitr; · iapply (inv_at m K (c, 3)); iexact H
  isplitr; · iapply (inv_at m K (c, 4)); iexact H
  isplitr; · iapply (inv_at m K (c, 5)); iexact H
  isplitr; · iapply (inv_at m K (c, 6)); iexact H
  isplitr; · iapply (inv_at m K (sh 1 c, 0)); iexact H
  isplitr; · iapply (inv_at m K (sh 2 c, 0)); iexact H
  isplitr; · iapply (inv_at m K (sh 3 c, 0)); iexact H
  isplitr; · iapply (inv_at m K (sh 1 c, 4)); iexact H
  isplitr; · iapply (inv_at m K (sh 2 c, 5)); iexact H
  iapply (inv_at m K (sh 3 c, 6)); iexact H

/-- and the marks of those it pays. -/
theorem marks_intro (K : Dev nD × Fin 7 → ℕ) (c : Dev nD) : records m K ⊢ marks c := by
  unfold marks
  iintro #H
  isplitr; · iapply (reached_at m K (sh 1 c, 0)); iexact H
  isplitr; · iapply (reached_at m K (sh 2 c, 0)); iexact H
  isplitr; · iapply (reached_at m K (sh 3 c, 0)); iexact H
  isplitr; · iapply (reached_at m K (c, 1)); iexact H
  isplitr; · iapply (reached_at m K (c, 2)); iexact H
  isplitr; · iapply (reached_at m K (c, 3)); iexact H
  isplitr; · iapply (reached_at m K (c, 4)); iexact H
  isplitr; · iapply (reached_at m K (c, 5)); iexact H
  isplitr; · iapply (reached_at m K (c, 6)); iexact H
  isplitr; · iapply (reached_at m K (sh 1 c, 4)); iexact H
  isplitr; · iapply (reached_at m K (sh 2 c, 5)); iexact H
  iapply (reached_at m K (sh 3 c, 6)); iexact H

/-- What the global step gives device `c`. -/
def given (c : Dev nD) : sProp 𝕄 := iprop((∃ K, ghost m K c) ∗ idle c)

/-- A device is given its state out of the records, its positions, its tokens and its idle semaphores. -/
theorem given_intro (K : Dev nD × Fin 7 → ℕ) (c : Dev nD) : iprop(records m K ∗ posns c ∗ payToks c ∗ idle c) ⊢ given m c := by
  unfold given ghost
  iintro ⟨#H, Hp, Ht, Hi⟩
  isplitr [Hi]
  · iexists K
    isplitr; · iapply (invs_intro m K c); iexact H
    isplitr; · iapply (marks_intro m K c); iexact H
    isplitl [Hp] <;> iassumption
  iexact Hi

/-- Every device's cells' tokens, dealt to the devices that pay: a duty of another device's cell to the device it stands
    `d` on from. -/
theorem toks_around : (bigSep Finset.univ fun c : Dev nD => (toks c : sProp 𝕄)) = bigSep Finset.univ fun c : Dev nD => payToks c := by
  unfold toks payToks
  simp only [bigSep_sep']
  rw [bigSep_univ_equiv (turn 1) (fun c : Dev nD => (dutyTok ER (barCell c) 0 1 : sProp 𝕄)),
    bigSep_univ_equiv (turn 2) (fun c : Dev nD => (dutyTok ER (barCell c) 0 2 : sProp 𝕄)),
    bigSep_univ_equiv (turn 3) (fun c : Dev nD => (dutyTok ER (barCell c) 0 3 : sProp 𝕄)),
    bigSep_univ_equiv (turn 1) (fun c : Dev nD => (dutyTok ER (recvCell c 1) 0 0 : sProp 𝕄)),
    bigSep_univ_equiv (turn 2) (fun c : Dev nD => (dutyTok ER (recvCell c 2) 0 0 : sProp 𝕄)),
    bigSep_univ_equiv (turn 3) (fun c : Dev nD => (dutyTok ER (recvCell c 3) 0 0 : sProp 𝕄))]
  rfl

/-- The positions at all cells are every device's positions. -/
theorem posns_eq : (bigSep Finset.univ fun c : Dev nD => bigSep Finset.univ fun k : Fin 7 => (atPos ER (kcell (c, k)) 0 ∅ 0 : sProp 𝕄))
    = bigSep Finset.univ fun c : Dev nD => posns c :=
  bigSep_congr fun c _ => by unfold posns; rw [bigSep7]

/-- The cells allocated and the tokens dealt, regrouped device by device, are what each device is given. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (given m) := by
  simp only [bigSep_sep']
  rw [← bigSep_univ_prod (fun ck : Dev nD × Fin 7 => iprop(∃ κ : ℕ, cellInv ER (ringRd m) κ (kcell ck))),
    ← bigSep_univ_prod (fun ck : Dev nD × Fin 7 => (reached ER (kcell ck) 0 : sProp 𝕄)), toks_around]
  iintro ⟨HI, ⟨Hat, #HR⟩, Htok, Hid⟩
  ihave HK := (BI.bigSep_exists_pi Finset.univ (fun (ck : Dev nD × Fin 7) (κ : ℕ) => (cellInv ER (ringRd m) κ (kcell ck) : sProp 𝕄))) $$ HI
  icases HK with ⟨%K, #HI⟩
  ihave #HRec := (show iprop((bigSep Finset.univ fun ck : Dev nD × Fin 7 => cellInv ER (ringRd m) (K ck) (kcell ck))
    ∗ bigSep Finset.univ fun ck : Dev nD × Fin 7 => reached ER (kcell ck) 0) ⊢ records m K from by unfold records; exact BI.Entails.refl _) $$ []
  · isplitl; · iexact HI
    iexact HR
  ihave HRs := (BI.bigSep_of_persistent (Finset.univ : Finset (Dev nD)) (records m K)) $$ HRec
  ihave Hat := (Entails.of_eq (posns_eq (F := F))) $$ Hat
  iapply (show iprop((bigSep Finset.univ fun _ : Dev nD => records m K) ∗ (bigSep Finset.univ fun c : Dev nD => posns c)
      ∗ (bigSep Finset.univ fun c : Dev nD => payToks c) ∗ (bigSep Finset.univ fun c : Dev nD => idle c)) ⊢ bigSep Finset.univ (given m) from by
    rw [← bigSep_sep', ← bigSep_sep', ← bigSep_sep']
    exact bigSep_mono fun c _ => given_intro m K c)
  isplitl [HRs]; · iexact HRs
  isplitl [Hat]; · iexact Hat
  isplitl [Htok] <;> iassumption

/-- The global step: every device's cells allocated at once, the records shared, the tokens dealt. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (given m) :=
  ((bigSep_mono fun c _ => core_alloc m c).trans (bigSep_fupd _ _)).trans (BI.fupd_mono (regroup m))

/-! ## The launch credit -/

/-- Over all devices, the debts to the cell of the device `d` on that lie at device `c` are one device's. -/
theorem sum_hit (d : Fin 4) (s s' : SemLoc sig) (c : Dev nD) (n : ℕ) :
    (∑ e : Dev nD, (tallyAt ((sh d e : Thread nD τ), s) () n : CellTallies nD τ sig Unit) ((c : Thread nD τ), s') ()) = if s' = s then n else 0 := by
  simp only [tallyAt_apply]
  by_cases hs : s' = s
  · subst hs
    rw [if_pos rfl, Finset.sum_eq_single (un d c)]
    · rw [sh_un, if_pos ⟨rfl, trivial⟩]
    · intro e _ he
      rw [if_neg]
      rintro ⟨h, -⟩
      have h' : c = sh d e := congrArg (fun g : GSem nD τ sig => g.1.1) h
      exact he (by rw [h', un_sh])
    · exact fun h => absurd (Finset.mem_univ _) h
  · rw [if_neg hs]
    refine Finset.sum_eq_zero fun e _ => ?_
    rw [if_neg]
    rintro ⟨h, -⟩
    exact hs (congrArg Prod.snd h)

/-- What all devices together owe the semaphore `s` of device `c`. -/
theorem sum_owed (s : SemLoc sig) (c : Dev nD) :
    (∑ e : Dev nD, O₀ e ((c : Thread nD τ), s) ())
      = (if s = .dma (recvS 3) then N else 0) + (if s = .dma (recvS 1) then N else 0) + (if s = .dma (recvS 2) then N else 0)
        + (if s = .reg barS then 1 else 0) + (if s = .reg barS then 1 else 0) + (if s = .reg barS then 1 else 0) := by
  unfold O₀
  simp only [Pi.add_apply, Finsupp.add_apply, Finset.sum_add_distrib]
  rw [sum_hit, sum_hit, sum_hit, sum_hit, sum_hit, sum_hit]

/-- The credit at launch for a semaphore is what all devices together owe it. -/
theorem launch_tally (s : SemLoc sig) (c : Dev nD) (n : ℕ) (h : (∑ e : Dev nD, O₀ e ((c : Thread nD τ), s) ()) = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

/-- All devices together owe a barrier three signals, -/
theorem launch_bar (c : Dev nD) : (∑ e : Dev nD, O₀ e (barCell c) ()) = 3 := by
  rw [sum_owed, if_neg (dma_ne_bar _).symm, if_neg (dma_ne_bar _).symm, if_neg (dma_ne_bar _).symm, if_pos rfl]

/-- and a receive cell one block. -/
theorem launch_recv (c : Dev nD) (d : Fin 4) (h : d ≠ 0) : (∑ e : Dev nD, O₀ e (recvCell c d) ()) = N := by
  have hne : ∀ d d' : Fin 4, d ≠ d' → (SemLoc.dma (recvS d) : SemLoc sig) ≠ .dma (recvS d') := by decide
  rw [sum_owed, if_neg (dma_ne_bar _)]
  match d, h with
  | 1, _ => rw [if_neg (hne 1 3 (by decide)), if_pos rfl, if_neg (hne 1 2 (by decide))]; omega
  | 2, _ => rw [if_neg (hne 2 3 (by decide)), if_neg (hne 2 1 (by decide)), if_pos rfl]; omega
  | 3, _ => rw [if_pos rfl, if_neg (hne 3 1 (by decide)), if_neg (hne 3 2 (by decide))]; omega

/-- A device starts with credit for the three signals to its barrier and for the block of each receive cell. -/
theorem creds_intro (c : Dev nD) : (Pipeline.launchCred O₀ c : sProp 𝕄) ⊢ creds c := by
  unfold Pipeline.launchCred creds
  refine (BI.bigSep_subset (Finset.subset_univ ({.reg barS, .dma (recvS 1), .dma (recvS 2), .dma (recvS 3)} : Finset (SemLoc sig)))).trans ?_
  rw [bigSep_eq_bigSepL_of_eq [.reg barS, .dma (recvS 1), .dma (recvS 2), .dma (recvS 3)] (by decide) (by decide), bigSepL_cons_cons,
    bigSepL_cons_cons, bigSepL_cons_cons, bigSepL_singleton, launch_tally _ c 3 (launch_bar c), launch_tally _ c N (launch_recv c 1 (by decide)),
    launch_tally _ c N (launch_recv c 2 (by decide)), launch_tally _ c N (launch_recv c 3 (by decide))]
  exact BI.Entails.refl _

end Cert.Scatter

end
-- ==== Proof.Run.lean ====
/-
# The run on four devices

From any memory with every counter at zero, the kernel on four devices ends; on every device the result array holds `outAt`,
the two arguments hold what they held, and every counter is at zero again (`run_main`). The float values are any.
-/
module

public import proofs.«01_k».proof.Proof.Body
public import proofs.«01_k».proof.Proof.Launch
public import Idealize.ShloMosaic.Lib.Pipeline.ValueKit.Geometry
public import Idealize.ShloMosaic.Lib.Pipeline.CollectiveSegs

@[expose] public section

set_option maxRecDepth 16384

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The window's array is held whole. -/
theorem share_eq (c : Dev nD) (w : Fin cfg0.W) : (dats m 0 c).share w = fullShare := by unfold Dat.share; split <;> rfl

/-- The launch hands each device what its program starts from; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  rw [Pipeline.unscopedRestP_none, unscopedRest0_eq]
  unfold given start args
  iintro ⟨Ha, Hl, Hc, -, Hg, Hi⟩
  ihave Hc := (creds_intro (F := F) c) $$ Hc
  imodintro
  isplitl
  · isplitl [Hg]; · iexact Hg
    isplitl [Hc]; · iexact Hc
    isplitl [Hl]; · iexact Hl
    isplitl [Ha] <;> iassumption
  · iempintro

/-- with the scratch arrays that is the state before the pipeline's point; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What outlives the kernel: the barrier semaphore at zero, the two arguments. -/
def left (c : Dev nD) : sProp 𝕄 := iprop(unscopedSems0 c ∗ args m c)

/-- and takes it back. -/
theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left scratch
  iintro ⟨Ha, Hr, Hc, Hi⟩
  ihave Hs := (sems1 (F := F) c) $$ [Hc Hi]
  · isplitl [Hc] <;> iassumption
  icases Hs with ⟨Hu, Ho⟩
  isplitl [Hu Ha]
  · isplitl [Hu] <;> iassumption
  isplitl [Ho] <;> iassumption

/-- A device may wait for its result to be written back: it owes nothing of that level. -/
theorem waits (c : Dev nD) : (levAts L lv : sProp 𝕄) ⊢ Pipeline.cellsWaits cfgs (dats m) () 0 c :=
  Pipeline.cellsWaits_intro cfgs (dats m) () 0 c fun w s t =>
    mayWait 0 c _ (lv_low c _ (by fin_cases w <;> fin_cases s <;> decide)) _ (by
      rcases t with ⟨_ | _, ht⟩
      · exact high_0 c
      · exact High.zero 0)

/-- The final memory's two arguments, and its unscoped counters, read off what is left. -/
theorem left_read (c : Dev nD) (s' : Phys nD τ sig (Elt F)) :
    iprop(left m c ∗ emp ∗ SI s') ⊢ (|={Set.univ}=> iprop(⌜(∀ sm : SemLoc sig, sm.isScoped .tc = false → s'.mem.sem ((c.tc : Thread nD τ), sm) = 0)
        ∧ s'.mem.mem ((c : Thread nD τ).loc main_arg0) = m ((c : Thread nD τ).loc main_arg0)
        ∧ s'.mem.mem ((c : Thread nD τ).loc main_arg1) = m ((c : Thread nD τ).loc main_arg1)⌝ ∗ SI s') : sProp 𝕄) := by
  unfold left args
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hx, Buf.eq_of_forall_mem_univ hw⟩
  iexact HSI

/-- The result array after the kernel: one block, the whole array, written back once. -/
theorem final_out (c : Dev nD) : (dats m 0 c).arrAt (0 : Fin 1) cfg0.N = outAt m c := by
  refine (dats m 0 c).arrAt_eq_of_after_last (0 : Fin 1) t0_0 (by decide +kernel) _ fun j => ?_
  rfl

/-- What the run ends with. -/
def Ends (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- On four devices, for any float values, from any memory with every counter at zero: every fair execution of the kernel
    ends, with each device's result at `outAt`, both its arguments unchanged and every counter at zero. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := given m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => (∀ sm : SemLoc sig, sm.isScoped .tc = false → s.sem ((c.tc : Thread nD τ), sm) = 0)
        ∧ s.mem ((c : Thread nD τ).loc main_arg0) = m ((c : Thread nD τ).loc main_arg0)
        ∧ s.mem ((c : Thread nD τ).loc main_arg1) = m ((c : Thread nD τ).loc main_arg1))
    (hY := left_read m)
    (hQ := fun _ h hs => ⟨fun c => ⟨((h c).1 (0 : Fin 1)).trans (final_out m c), (h c).2.2.2⟩, sem_eq_zero hs fun c => (h c).2.2.1⟩)

/-- The same, of the arguments and the counters alone. -/
theorem run_frame : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => (h.1 c).2, h.2⟩) (run_main m ρ)

end Cert.Scatter

end
-- ==== Proof.Value.lean ====
/-
# The result over exact values

With floats read as extended reals and no rounding, a product of blocks is a sum of products of entries (`mm_apply`), and the
result of a device, row by row and column by column, is such a sum over the activations of the device whose rows it is
(`outAt_apply`).
-/
module

public import proofs.«01_k».proof.Proof.Blocks
public import Idealize.ShloMosaic.Lib.MatmulPlain

@[expose] public section

set_option maxRecDepth 16384

noncomputable section

namespace Cert.Scatter

open Cert.KernelIdeal Cert.KernelIdeal.Gen
open Idealize.ShloMosaic
open Idealize.ShloMosaic.TcCoe
open Idealize.ShloMosaic.ValueIdx (ix2 eq_ix2)

/-- The block product at row `r` and column `j`: the sum of the products along the contracted axis. -/
theorem mm_apply (x : FVec Ideal S256x1024 .f32) (w : FVec Ideal S1024x256 .f32) (r : Fin 256) (j : Fin 256) :
    mm x w (ix2 r j) = ∑ k : Fin 1024, x (ix2 r k) * w (ix2 k j) := by
  show FloatOps.matmul (F := Ideal) (φ₁ := .bf16) (φ₂ := .bf16) (DotDims.plain 256 1024 256) none x w (constant (F := Ideal) S256x256 .f32 0x00000000#32) (ix2 r j) = _
  rw [Ideal.matmul_plain_apply]
  show Ideal.ofBits .f32 0x00000000#32 + _ = _
  rw [Ideal.ofBits_zero_f32, zero_add]

/-- The columns a device takes for the device `d` on start at that device's block. -/
theorem off1_eq (c : Dev nD) (d : Fin 4) : k0_off1 c (BitVec.ofNat 32 d.val) = ![0, 256 * (sh d c).val] := by revert c d; decide

/-- Column `j` of block `s` of the 1024 columns. -/
def colAt (s : Dev nD) (j : Fin 256) : Fin 1024 := ⟨256 * s.val + j.val, by have := s.isLt; change s.val < 4 at this; omega⟩

/-- Going on by the distance arrives. -/
theorem sh_gap (c s : Dev nD) : sh (gap c s) s = c := by revert c s; decide

variable (m : (ℓ : Loc nD τ sig) → Buf (Elt Ideal) ℓ)

/-- The whole weights of a device, as a matrix. -/
def wAll (c : Dev nD) : FVec Ideal S1024x1024 .f32 := m ((c : Thread nD τ).loc main_arg1)

/-- The columns a device takes of its weights for the device `d` on are that device's block of columns. -/
theorem wOf_apply (c : Dev nD) (d : Fin 4) (k : Fin 1024) (j : Fin 256) :
    wOf m c d (ix2 k j) = wAll m c (ix2 k (colAt (sh d c) j)) := by
  show wAll m c ((wCol c d).view.emb (ix2 k j)) = _
  refine congrArg _ (funext fun a => Fin.ext ?_)
  have h := off1_eq c d
  match a with
  | ⟨0, _⟩ =>
    show k0_off1 c (BitVec.ofNat 32 d.val) 0 + 1 * k.val = k.val
    rw [h]; show 0 + 1 * k.val = k.val; omega
  | ⟨1, _⟩ =>
    show k0_off1 c (BitVec.ofNat 32 d.val) 1 + 1 * j.val = 256 * (sh d c).val + j.val
    rw [h]; show 256 * (sh d c).val + 1 * j.val = 256 * (sh d c).val + j.val; omega

/-- The result of device `c` at row `i` and column `j`: the product of row `i` of the activations, held by the device whose
    block of rows `i` lies in, with column `j` of block `c` of that device's weights. -/
theorem outAt_apply (c : Dev nD) (i : Fin 1024) (j : Fin 256) :
    outAt m c (ix2 i j) = ∑ k : Fin 1024, xOf m (rowDev i) (ix2 (rowIn i) k) * wAll m (rowDev i) (ix2 k (colAt c j)) := by
  show mm (xOf m (rowDev i)) (wOf m (rowDev i) (gap c (rowDev i))) (ix2 (rowIn i) j) = _
  rw [mm_apply]
  refine Finset.sum_congr rfl fun k _ => ?_
  rw [wOf_apply, sh_gap]

end Cert.Scatter

end
-- ==== Proof.Reference.lean ====
/-
# What the reference computes

The one-device reference is the product of its two arguments, read back as a sum of products of entries (`product_apply`); its
run ends with that product in its result, its arguments unchanged and every counter at zero (`reference_run`).
-/
module

public import proofs.«01_k».proof.Proof.Gen.ReferenceIdeal.Run
public import Idealize.ShloMosaic.Lib.StackMember
public import Idealize.ShloMosaic.Lib.Quiescent

@[expose] public section

set_option maxRecDepth 16384

noncomputable section

namespace Cert.Scatter.Reference

open Cert.ReferenceIdeal Cert.ReferenceIdeal.Gen
open Idealize.ShloMosaic
open Idealize.ShloMosaic.TcCoe
open Idealize.SL.Sem
open Idealize.ShloMosaic.ValueIdx (ix2 eq_ix2)

/-- The reference's result for activations `x` and weights `w`. -/
def product (x w : FVec Ideal S1024x1024 .f32) : FVec Ideal S1024x1024 .bf16 :=
  truncf .bf16 (Host.dotGeneral dot_S1024x1024_S1024x1024_S1024x1024_1_0_0_1_n_n none x w) bitsLt_bf16_f32

/-- It is the matrix product. -/
theorem product_apply (x w : FVec Ideal S1024x1024 .f32) (i j : Fin 1024) :
    product x w (ix2 i j) = ∑ k : Fin 1024, x (ix2 i k) * w (ix2 k j) := by
  show Host.dotGeneral (F := Ideal) (DotDims.plain 1024 1024 1024) none x w (ix2 i j) = _
  exact StackMember.dotGeneral_plain_apply none x w i j

/-- From any memory with every counter at zero, the reference ends with the product of its arguments in its result, both
    arguments unchanged and every counter at zero. -/
theorem reference_run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_v1) = product (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun r h => ⟨h, sem_eq_zero_of_no_sems rfl r.2⟩) (Value.run (F := Ideal) m ρ)

end Cert.Scatter.Reference

end
-- ==== Proof.Equation.lean ====
/-
# The equation

Where the four devices hold the blocks of rows of the reference's activations and each a copy of its weights, the result of
device `c` is block `c` of the columns of the reference's product (`outAt_eq`).
-/
module

public import proofs.«01_k».proof.Proof.Value
public import proofs.«01_k».proof.Proof.Reference
public import Idealize.ShloMosaic.Lib.Layout

@[expose] public section

set_option maxRecDepth 16384

noncomputable section

namespace Cert.Scatter

open Cert.KernelIdeal Cert.KernelIdeal.Gen
open Idealize.ShloMosaic
open Idealize.ShloMosaic.TcCoe
open Idealize.ShloMosaic.ValueIdx (ix2 eq_ix2)

/-- A block of rows at a row and column: the whole at the row that many blocks down. -/
theorem rows_apply (c : Dev nD) (x : FVec Ideal S1024x1024 .f32) (i : Fin 1024) (h : rowDev i = c) (k : Fin 1024) :
    Layout.block ⟨2, ![256, 1024]⟩ ⟨2, ![1024, 1024]⟩ 0 4 c x (by decide) (ix2 (rowIn i) k) = x (ix2 i k) := by
  subst h
  refine congrArg x (funext fun a => Fin.ext ?_)
  match a with
  | ⟨0, _⟩ => show (i.val / 256) * 256 + i.val % 256 = i.val; omega
  | ⟨1, _⟩ => rfl

/-- A block of columns at a row and column: the whole at the column that many blocks along. -/
theorem cols_apply (c : Dev nD) (v : FVec Ideal S1024x1024 .bf16) (i : Fin 1024) (j : Fin 256) :
    Layout.block ⟨2, ![1024, 256]⟩ ⟨2, ![1024, 1024]⟩ 1 4 c v (by decide) (ix2 i j) = v (ix2 i (colAt c j)) := by
  refine congrArg v (funext fun a => Fin.ext ?_)
  match a with
  | ⟨0, _⟩ => rfl
  | ⟨1, _⟩ => show c.val * 256 + j.val = 256 * c.val + j.val; omega

/-- The result of device `c` is its block of columns of the reference's product. -/
theorem outAt_eq (m : (ℓ : Loc nD τ sig) → Buf (Elt Ideal) ℓ) (x w : FVec Ideal S1024x1024 .f32)
    (hx : ∀ c : Dev nD, xOf m c = Layout.block ⟨2, ![256, 1024]⟩ ⟨2, ![1024, 1024]⟩ 0 4 c x (by decide)) (hw : ∀ c : Dev nD, wAll m c = w) (c : Dev nD) :
    outAt m c = Layout.block ⟨2, ![1024, 256]⟩ ⟨2, ![1024, 1024]⟩ 1 4 c (Reference.product x w) (by decide) := by
  refine funext fun (i : S1024x256.Idx) => ?_
  obtain ⟨a, b, rfl⟩ : ∃ (a : Fin 1024) (b : Fin 256), i = ix2 a b := ⟨i 0, i 1, eq_ix2 i⟩
  have h : (∑ k : Fin 1024, xOf m (rowDev a) (ix2 (rowIn a) k) * wAll m (rowDev a) (ix2 k (colAt c b)))
      = ∑ k : Fin 1024, x (ix2 a k) * w (ix2 k (colAt c b)) :=
    Finset.sum_congr rfl fun k _ => by rw [hx, hw, rows_apply _ x a rfl k]
  exact (outAt_apply m c a b).trans ((h.trans (Reference.product_apply x w a (colAt c b)).symm).trans (cols_apply c (Reference.product x w) a b).symm)

end Cert.Scatter

end
-- ==== Proof.lean ====
/-
# The claims, assembled

A matrix product fused with an all-to-all on four devices. The kernel's run, over any float values, is `Cert.Scatter.run_main`
(Proof/Run.lean); the two frames of the kernel are that run read at bit patterns and at exact values, the value claim is that
run at exact values with its result rewritten by `Cert.Scatter.outAt_eq` (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The body tables of the two printed programs are the same table. -/
theorem bodies_eq : Cert.Kernel.defs₀ (F := Bits) = Cert.KernelIdeal.defs₀ (F := Bits) :=
  congrArg Defs.onTc (funext fun l => match l with | 0 => rfl)

/-- With the launch's own entries added, the two tables are still the same. -/
theorem defs_eq : Cert.Kernel.defs (F := Bits) = Cert.KernelIdeal.defs (F := Bits) :=
  congrArg (Pipeline.defs (Cert.Kernel.pcfgs (F := Bits))) bodies_eq

/-- The kernel over bit patterns ends, its arguments unchanged and every counter at zero: its text is the idealized one's. -/
theorem frame_kernel : Cert.quiescent_Kernel := by
  intro m ρ _
  rw [defs_eq]
  exact Cert.Scatter.run_frame (F := Bits) m ρ

/-- The kernel over exact values ends, its arguments unchanged and every counter at zero. -/
theorem frame_kernelIdeal : Cert.quiescent_KernelIdeal := fun m ρ _ => Cert.Scatter.run_frame (F := Ideal) m ρ

/-- The reference ends, its arguments unchanged and every counter at zero. -/
theorem frame_referenceIdeal : Cert.quiescent_ReferenceIdeal := fun m ρ _ =>
  (θ_run Cert.ReferenceIdeal.defs _ _).mono (fun _ h => ⟨fun c => (h.1 c).2, h.2⟩) (Cert.Scatter.Reference.reference_run m ρ)

/-- Over exact values, each device's result is its block of columns of the reference's product. -/
theorem algebraic : Cert.algebraic_KernelIdeal_ReferenceIdeal := fun m ρ m' ρ' _ hm =>
  ⟨Cert.Scatter.Reference.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.Scatter.outAt_eq m _ _ (fun d => (hm d).1) (fun d => (hm d).2) c), (h.1 c).2⟩)
      (Cert.Scatter.run_main (F := Ideal) m ρ),
    (θ_run Cert.ReferenceIdeal.defs _ _).mono (fun _ h => h.1 0) (Cert.Scatter.Reference.reference_run m' ρ')⟩

/-- All five claims, with the side conditions of the three programs. -/
theorem claim : Cert.Claim :=
  ⟨Cert.Kernel.Gen.facts, Cert.KernelIdeal.Gen.facts, Cert.ReferenceIdeal.Gen.facts, frame_kernel, frame_kernelIdeal, frame_referenceIdeal,
    trivial, algebraic⟩

end Cert.Proof

end
